-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2x512 : Shape := ⟨2, ![2, 512]⟩
abbrev S3x2x512 : Shape := ⟨3, ![3, 2, 512]⟩
abbrev S3 : Shape := ⟨1, ![3]⟩
abbrev S_ : Shape := ⟨0, ![]⟩
abbrev S512 : Shape := ⟨1, ![512]⟩
abbrev S1x512 : Shape := ⟨2, ![1, 512]⟩
abbrev S1 : Shape := ⟨1, ![1]⟩
abbrev S1x2x512 : Shape := ⟨3, ![1, 2, 512]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .bf16⟩
  | .hbm, ⟨1, _⟩ => ⟨S2x512, .f32⟩
  | .local _ .vmem, ⟨0, _⟩ => ⟨S512x512, .bf16⟩
  | .local _ .vmem, ⟨1, _⟩ => ⟨S2x512, .f32⟩
  | .local _ .vmem, ⟨2, _⟩ => ⟨S2x512, .f32⟩
  | .local _ .vmem, ⟨3, _⟩ => ⟨S3x2x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v65 : BitVec 32 := Scalar.addi v2 c1_i32_34
  let c4_i32_35 : BitVec 32 := 4#32
  let c0_i32_36 : BitVec 32 := 0#32
  let v66 : BitVec 1 := Scalar.cmpi .eq c4_i32_35 c0_i32_36
  let c1_i32_37 : BitVec 32 := 1#32
  let v67 : BitVec 32 := Scalar.select v66 c1_i32_37 c4_i32_35
  let v68 : BitVec 32 := Scalar.remsi v65 v67
  let c0_i32_39 : BitVec 32 := 0#32
  let v70 : BitVec 1 := Scalar.cmpi .slt v68 c0_i32_39
  let c0_i32_40 : BitVec 32 := 0#32
  let v71 : BitVec 1 := Scalar.cmpi .slt v67 c0_i32_40
  let v72 : BitVec 1 := Scalar.xori v70 v71
  let c0_i32_38 : BitVec 32 := 0#32
  let v69 : BitVec 1 := Scalar.cmpi .ne v68 c0_i32_38
  let v73 : BitVec 1 := Scalar.andi v72 v69
  let v74 : BitVec 32 := Scalar.addi v68 v67
  let v75 : BitVec 32 := Scalar.select v73 v74 v68
  let c1_i32_44 : BitVec 32 := 1#32
  let v76 : BitVec 32 := Scalar.muli v75 c1_i32_44
  let v77 : BitVec 32 := Scalar.addi c0_i32_45 v76
  v77.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v84 : BitVec 32 := Scalar.addi v2 c2_i32_48
  let c4_i32_49 : BitVec 32 := 4#32
  let c0_i32_50 : BitVec 32 := 0#32
  let v85 : BitVec 1 := Scalar.cmpi .eq c4_i32_49 c0_i32_50
  let c1_i32_51 : BitVec 32 := 1#32
  let v86 : BitVec 32 := Scalar.select v85 c1_i32_51 c4_i32_49
  let v87 : BitVec 32 := Scalar.remsi v84 v86
  let c0_i32_53 : BitVec 32 := 0#32
  let v89 : BitVec 1 := Scalar.cmpi .slt v87 c0_i32_53
  let c0_i32_54 : BitVec 32 := 0#32
  let v90 : BitVec 1 := Scalar.cmpi .slt v86 c0_i32_54
  let v91 : BitVec 1 := Scalar.xori v89 v90
  let c0_i32_52 : BitVec 32 := 0#32
  let v88 : BitVec 1 := Scalar.cmpi .ne v87 c0_i32_52
  let v92 : BitVec 1 := Scalar.andi v91 v88
  let v93 : BitVec 32 := Scalar.addi v87 v86
  let v94 : BitVec 32 := Scalar.select v92 v93 v87
  let c1_i32_58 : BitVec 32 := 1#32
  let v95 : BitVec 32 := Scalar.muli v94 c1_i32_58
  let v96 : BitVec 32 := Scalar.addi c0_i32_59 v95
  v96.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_62 : BitVec 32 := 3#32
  let v103 : BitVec 32 := Scalar.addi v2 c3_i32_62
  let c4_i32_63 : BitVec 32 := 4#32
  let c0_i32_64 : BitVec 32 := 0#32
  let v104 : BitVec 1 := Scalar.cmpi .eq c4_i32_63 c0_i32_64
  let c1_i32_65 : BitVec 32 := 1#32
  let v105 : BitVec 32 := Scalar.select v104 c1_i32_65 c4_i32_63
  let v106 : BitVec 32 := Scalar.remsi v103 v105
  let c0_i32_67 : BitVec 32 := 0#32
  let v108 : BitVec 1 := Scalar.cmpi .slt v106 c0_i32_67
  let c0_i32_68 : BitVec 32 := 0#32
  let v109 : BitVec 1 := Scalar.cmpi .slt v105 c0_i32_68
  let v110 : BitVec 1 := Scalar.xori v108 v109
  let c0_i32_66 : BitVec 32 := 0#32
  let v107 : BitVec 1 := Scalar.cmpi .ne v106 c0_i32_66
  let v111 : BitVec 1 := Scalar.andi v110 v107
  let v112 : BitVec 32 := Scalar.addi v106 v105
  let v113 : BitVec 32 := Scalar.select v111 v112 v106
  let c1_i32_72 : BitVec 32 := 1#32
  let v114 : BitVec 32 := Scalar.muli v113 c1_i32_72
  let v115 : BitVec 32 := Scalar.addi c0_i32_73 v114
  v115.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 13
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .i32⟩
  | .hbm, ⟨2, _⟩ => ⟨S_, .bf16⟩
  | .hbm, ⟨3, _⟩ => ⟨S_, .i32⟩
  | .hbm, ⟨4, _⟩ => ⟨S512, .bf16⟩
  | .hbm, ⟨5, _⟩ => ⟨S512, .i32⟩
  | .hbm, ⟨6, _⟩ => ⟨S512, .f32⟩
  | .hbm, ⟨7, _⟩ => ⟨S_, .bf16⟩
  | .hbm, ⟨8, _⟩ => ⟨S512, .bf16⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S2x512, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.KernelIdeal.Contents.lean ====
/-
  What the four devices' buffers hold, and how the landing buffer is cut into its three slots.

  A device works out two rows over the columns of its own block of `x`: each column's largest element and the row of `x`
  that element first stands in. It sends the pair of rows to each of the other three devices. `part` is that pair, `gathered`
  what a device's landing buffer holds once the three pairs addressed to it have landed, `result` what it writes out.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Ring
public import Idealize.ShloMosaic.Lib.Ring.Trips
public import Idealize.ShloMosaic.Lib.Tactic

@[expose] public section

noncomputable section

namespace Cert.KernelIdeal.Mesh

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## The neighbours -/

/-- The device `k + 1` places on from `c`, around the mesh of four. Going on by `k + 1` and then by `rev k + 1` is going
    all the way round. -/
def hop (k : Fin 3) : Dev nD ≃ Dev nD where
  toFun c := ⟨(c.val + (k.val + 1)) % 4, Nat.mod_lt _ (by decide)⟩
  invFun c := ⟨(c.val + (k.rev.val + 1)) % 4, Nat.mod_lt _ (by decide)⟩
  left_inv := by revert k; decide
  right_inv := by revert k; decide

theorem hop_rev (k : Fin 3) (c : Dev nD) : hop k.rev (hop k c) = c := by revert k c; decide
theorem hop_rev' (k : Fin 3) (c : Dev nD) : hop k (hop k.rev c) = c := by revert k c; decide
theorem hop_eq_iff {k : Fin 3} {c d : Dev nD} : Iff (hop k d = c) (d = hop k.rev c) := by revert k c d; decide

/-- The devices the kernel's three signals and three copies name. -/
theorem signal_to (c : Dev nD) :
    (⟨k0_dev1 c, k0_dev1_lt c⟩ : Dev nD) = hop 0 c ∧ (⟨k0_dev2 c, k0_dev2_lt c⟩ : Dev nD) = hop 1 c
      ∧ (⟨k0_dev3 c, k0_dev3_lt c⟩ : Dev nD) = hop 2 c := by revert c; decide +kernel
theorem copy_to (c : Dev nD) :
    (⟨k0_dev4 c, k0_dev4_lt c⟩ : Dev nD) = hop 0 c ∧ (⟨k0_dev5 c, k0_dev5_lt c⟩ : Dev nD) = hop 1 c
      ∧ (⟨k0_dev6 c, k0_dev6_lt c⟩ : Dev nD) = hop 2 c := by revert c; decide +kernel

/-! ## The buffers and their pieces -/

abbrev xM : Memref sig .tc .vmem S512x512 .bf16 := Memref.whole cc0_stg0_0
abbrev oM : Memref sig .tc .vmem S2x512 .f32 := Memref.whole cc0_stg1_0
abbrev pM : Memref sig .tc .vmem S2x512 .f32 := Memref.whole cc0_scratch0
abbrev gM : Memref sig .tc .vmem S3x2x512 .f32 := Memref.whole cc0_scratch1

theorem inb_slot (j : Fin 3) : ∀ a, (![j.val, 0, 0] : Fin 3 → Nat) a + S1x2x512.size a ≤ S3x2x512.size a := by
  revert j; decide
theorem inb_sem (j : Fin 3) : ∀ a, (![j.val] : Fin 1 → Nat) a + S1.size a ≤ S3.size a := by revert j; decide

/-- Slot `j` of the landing buffer. -/
abbrev slotM (j : Fin 3) : Memref sig .tc .vmem S2x512 .f32 :=
  (gM.slice (Rect.unit (s := S3x2x512) ![j.val, 0, 0] S1x2x512.size (inb_slot j)) (fun _ => rfl)).squeeze S2x512
    squeezes_S1x2x512_S2x512
/-- The semaphores that count transfer `j` going out and coming in. -/
abbrev outS (j : Fin 3) : DmaSem sig := ((cc0_scratch2.slice (Rect.unit (s := S3) ![j.val] S1.size (inb_sem j))).squeeze S_ squeezes_S1_S_).sem
abbrev inS (j : Fin 3) : DmaSem sig := ((cc0_scratch3.slice (Rect.unit (s := S3) ![j.val] S1.size (inb_sem j))).squeeze S_ squeezes_S1_S_).sem

/-- Row `r` of a pair of rows. -/
abbrev rowR (r : Fin 2) (h : ∀ a, (![r.val, 0] : Fin 2 → Nat) a + S1x512.size a ≤ S2x512.size a) : Rect S2x512 :=
  Rect.unit (s := S2x512) ![r.val, 0] S1x512.size h

/-- Indices of equal coordinates are equal. -/
theorem idx3_ext' {i i' : S3x2x512.Idx} (h0 : (i 0).val = (i' 0).val) (h1 : (i 1).val = (i' 1).val) (h2 : (i 2).val = (i' 2).val) :
    i = i' := by
  refine funext fun a => Fin.ext ?_
  match a with
  | ⟨0, _⟩ => exact h0
  | ⟨1, _⟩ => exact h1
  | ⟨2, _⟩ => exact h2

/-- The coordinates of an index, as numbers below the extents. -/
abbrev rowOf (i : S2x512.Idx) : Fin 2 := i 0
abbrev colOf (i : S2x512.Idx) : Fin 512 := i 1
abbrev slotOf (i : S3x2x512.Idx) : Fin 3 := i 0

theorem slot_emb (j : Fin 3) (x : S2x512.Idx) : (slotM j).view.emb x = ix3 j (rowOf x) (colOf x) := by
  conv_lhs => rw [eq_ix2 x]
  show (View.whole cc0_scratch1).emb ((Rect.unit (s := S3x2x512) ![j.val, 0, 0] S1x2x512.size (inb_slot j)).emb
    (Shape.reshapeEquiv squeezes_S1x2x512_S2x512.numel_eq (ix2 (x 0) (x 1)))) = _
  rw [reshapeEquiv_ix2_1ab squeezes_S1x2x512_S2x512.numel_eq (x 0) (x 1)]
  refine idx3_ext' ?_ ?_ ?_
  · show j.val + 1 * 0 = j.val; omega
  · show 0 + 1 * (x 0).val = (x 0).val; omega
  · show 0 + 1 * (x 1).val = (x 1).val; omega

abbrev slotSet (j : Fin 3) : Finset (S3x2x512.Idx) := (slotM j).view.set

theorem mem_slotSet {j : Fin 3} {i : S3x2x512.Idx} : Iff (i ∈ slotSet j) (slotOf i = j) := by
  constructor
  · intro h
    obtain ⟨x, -, rfl⟩ := Finset.mem_map.mp h
    exact congrArg slotOf (slot_emb j x)
  · rintro rfl
    refine Finset.mem_map.mpr ⟨ix2 (i 1) (i 2), Finset.mem_univ _, ?_⟩
    exact (slot_emb (slotOf i) _).trans (eq_ix3 i).symm

theorem slots_disjoint (b b' : Fin 3) (h : b ≠ b') : Disjoint (slotSet b) (slotSet b') :=
  Finset.disjoint_left.mpr fun _ hi hi' => h ((mem_slotSet.mp hi).symm.trans (mem_slotSet.mp hi'))
theorem slots_cover : Finset.univ.biUnion slotSet = Finset.univ :=
  Finset.eq_univ_iff_forall.mpr fun i => Finset.mem_biUnion.mpr ⟨i 0, Finset.mem_univ _, mem_slotSet.mpr rfl⟩

/-! ## Two rows, written one after the other and read back -/

/-- The two rows `a`, `b` as one array. -/
def stack (a b : Vec F S1x512 .f32) : Vec F S2x512 .f32 := fun i => if rowOf i = 0 then a (ix2 0 (i 1)) else b (ix2 0 (i 1))

omit [FloatOps F] in
theorem row_emb (r : Fin 2) (h) (x : S1x512.Idx) : (rowR r h).emb x = ix2 r (x 1) := by
  refine funext fun a => Fin.ext ?_
  have h0 : (x 0).val = 0 := by have := (x 0).isLt; simp at this; exact this
  match a with
  | ⟨0, _⟩ => show r.val + 1 * (x 0).val = r.val; omega
  | ⟨1, _⟩ => show 0 + 1 * (x 1).val = (x 1).val; omega

omit [FloatOps F] in
theorem stack_row0 (a b : Vec F S1x512 .f32) (h) (x : S1x512.Idx) : stack a b ((rowR 0 h).emb x) = a x := by
  rw [row_emb]; unfold stack; rw [if_pos rfl]; exact congrArg a (funext fun d => match d with
    | ⟨0, _⟩ => Subsingleton.elim (α := Fin 1) _ _
    | ⟨1, _⟩ => rfl)
omit [FloatOps F] in
theorem stack_row1 (a b : Vec F S1x512 .f32) (h) (x : S1x512.Idx) : stack a b ((rowR 1 h).emb x) = b x := by
  rw [row_emb]; unfold stack; rw [if_neg (show ¬ ((1 : Fin 2) = 0) by decide)]; exact congrArg b (funext fun d => match d with
    | ⟨0, _⟩ => Subsingleton.elim (α := Fin 1) _ _
    | ⟨1, _⟩ => rfl)

/-- Every index of a pair of rows is in one of its rows. -/
theorem in_row (i : S2x512.Idx) (r : Fin 2) (hr : rowOf i = r) (h) : i = (rowR r h).emb (ix2 (0 : Fin 1) (colOf i)) := by
  subst hr; exact (eq_ix2 i).trans (row_emb (rowOf i) h (ix2 (0 : Fin 1) (colOf i))).symm

omit [FloatOps F] in
/-- A pair of rows stored into a buffer of two rows, whatever it held, is `stack`. -/
theorem read_stores {sp : Space} (v : View sig .tc sp S2x512 .f32) (h0 h1) (f : v.ty.Contents (Elt F)) (a b : Vec F S1x512 .f32) :
    v.read (Elt F) ((v.slice (rowR 1 h1)).write (Elt F) ((v.slice (rowR 0 h0)).write (Elt F) f a Finset.univ) b Finset.univ)
      = stack a b := by
  refine funext fun i => ?_
  rcases (by generalize rowOf i = z; revert z; decide : rowOf i = 0 ∨ rowOf i = 1) with hi | hi
  · rw [in_row i 0 hi h0, stack_row0, View.read_slice_write_of_not_mem]
    · exact View.read_slice_write_emb (v := v) (rowR 0 h0) f a (Finset.mem_univ _)
    · rintro hm
      obtain ⟨x, -, hx⟩ := Finset.mem_map.mp hm
      rw [row_emb, row_emb] at hx
      exact absurd (show (1 : Fin 2) = 0 from congrFun hx 0) (by decide)
  · rw [in_row i 1 hi h1, stack_row1]
    exact View.read_slice_write_emb (v := v) (rowR 1 h1) _ b (Finset.mem_univ _)

/-! ## What the buffers hold -/

/-- Device `c`'s block of `x`, as its staging buffer holds it. -/
def block (c : Dev nD) : (cc0_stg0_0 : Ref sig .tc).ty.Contents (Elt F) :=
  (win0_0.blk (0 : Fin 1)).view.read (Elt F) (m ((c : Thread nD τ).loc main_arg0))

/-- The device's place along the axis, as the kernel works it out. -/
abbrev place (c : Dev nD) : BitVec 32 := Scalar.remsi (Scalar.divsi (Dev.word c) 1#32) 4#32

/-- What device `c` sends out: its columns' largest elements over the rows they first stand in. -/
def part (c : Dev nD) : (cc0_scratch0 : Ref sig .tc).ty.Contents (Elt F) :=
  stack (k0_pay3 (block m c)) (k0_pay4 (place c) (block m c))

/-- What lands at device `c`: in slot `j` the pair from the device that reaches `c` by `hop j`. -/
def gathered (c : Dev nD) : (cc0_scratch1 : Ref sig .tc).ty.Contents (Elt F) :=
  fun i => part m (hop (slotOf i).rev c) (ix2 (i 1) (i 2))

/-- A pair landing in slot `j` of `c` leaves that slot as `gathered` says, whatever the buffer held. -/
theorem landed (c : Dev nD) (j : Fin 3) (f : (cc0_scratch1 : Ref sig .tc).ty.Contents (Elt F)) (i : S3x2x512.Idx) (hi : i ∈ slotSet j) :
    (slotM j).view.write (Elt F) f (pM.view.read (Elt F) (part m (hop j.rev c))) Finset.univ i = gathered m c i := by
  obtain ⟨x, -, rfl⟩ := Finset.mem_map.mp hi
  rw [View.write_emb_of_mem _ _ (Finset.mem_univ x), slot_emb]
  show part m (hop j.rev c) x = part m (hop j.rev c) (ix2 (rowOf x) (colOf x))
  exact congrArg _ (eq_ix2 x)

/-- The elements and rows device `c` reads back from slot `j`, as the kernel loads them. -/
def gotVal (c : Dev nD) (j : Fin 3) : Vec F S1x1x512 .f32 := fun x => part m (hop j.rev c) (ix2 0 (x 2))
def gotIdx (c : Dev nD) (j : Fin 3) : Vec F S1x1x512 .f32 := fun x => part m (hop j.rev c) (ix2 1 (x 2))

theorem read_got (c : Dev nD) (j : Fin 3) (r : Fin 2) (h : ∀ a, (![j.val, r.val, 0] : Fin 3 → Nat) a + S1x1x512.size a ≤ S3x2x512.size a) :
    gM.view.readAt (Elt F) (Rect.unit (s := S3x2x512) ![j.val, r.val, 0] S1x1x512.size h).toLoadRect (gathered m c)
      = fun x => part m (hop j.rev c) (ix2 r (x 2)) := by
  refine funext fun x => ?_
  show gathered m c ((Rect.unit (s := S3x2x512) ![j.val, r.val, 0] S1x1x512.size h).emb x) = _
  have h0 : (x 0).val = 0 := by have := (x 0).isLt; simp at this; exact this
  have h1 : (x 1).val = 0 := by have := (x 1).isLt; simp at this; exact this
  rw [show (Rect.unit (s := S3x2x512) ![j.val, r.val, 0] S1x1x512.size h).emb x = ix3 j r (x 2) from
    idx3_ext' (by show j.val + 1 * (x 0).val = j.val; omega) (by show r.val + 1 * (x 1).val = r.val; omega)
      (by show 0 + 1 * (x 2).val = (x 2).val; omega)]
  rfl

/-- What device `c` writes out: its own pair and the three it received, folded one after another. -/
def result (c : Dev nD) : (cc0_stg1_0 : Ref sig .tc).ty.Contents (Elt F) :=
  stack
    (k0_pay18 (k0_pay3 (block m c)) (k0_pay4 (place c) (block m c)) (gotVal m c 0) (gotIdx m c 0) (gotVal m c 1) (gotIdx m c 1)
      (gotVal m c 2) (gotIdx m c 2))
    (k0_pay19 (k0_pay3 (block m c)) (k0_pay4 (place c) (block m c)) (gotVal m c 0) (gotIdx m c 0) (gotVal m c 1) (gotIdx m c 1)
      (gotVal m c 2) (gotIdx m c 2))

end Cert.KernelIdeal.Mesh

end
-- ==== Proof.KernelIdeal.Schedule.lean ====
/-
  Who owes whom what: the meeting at the barrier and the three exchanges, as one round of duties per semaphore.

  Every device meets the other three at its barrier, where each of them adds one unit and, with the unit, lends the slot of
  its landing buffer that this device will copy into. After the barrier a device sends its pair of rows three times: copy `j`
  goes into slot `j` of the device `hop j` reaches, is counted out on its own semaphore `outS j`, where a third of the right
  to read the pair comes back, and counted in on the other's semaphore `inS j`, where the filled slot is handed over.
-/
module

public import proofs.«01_k».proof.Proof.KernelIdeal.Contents

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F]

/-- The exchange's share of the ghost state: its duties are numbered 0, 1, 2. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores -/

/-- The barrier's semaphore. -/
abbrev barS : Sem sig := (SemArray.scalar (sig.barrier 0 rfl) : Sems sig S_).sem

/-- A device's seven semaphores of the exchange: the barrier (`none`), transfer `j` going out (`some (false, j)`) and
    coming in (`some (true, j)`). -/
abbrev Which : Type := Option (Bool × Fin 3)
abbrev semOf : Which → SemLoc sig
  | none => .reg barS
  | some (false, j) => .dma (outS j)
  | some (true, j) => .dma (inS j)

abbrev cell (c : Dev nD) (w : Which) : GSem nD τ sig := ((c : Thread nD τ), semOf w)
abbrev barCell (c : Dev nD) : GSem nD τ sig := cell c none
abbrev outCell (c : Dev nD) (j : Fin 3) : GSem nD τ sig := cell c (some (false, j))
abbrev inCell (c : Dev nD) (j : Fin 3) : GSem nD τ sig := cell c (some (true, j))

theorem semOf_injective : Function.Injective semOf := by decide +kernel
theorem semOf_ne {w w' : Which} (h : w ≠ w') : semOf w ≠ semOf w' := fun h' => h (semOf_injective h')

theorem cell_eq_iff {c c' : Dev nD} {w w' : Which} : Iff (cell c w = cell c' w') (c = c' ∧ w = w') :=
  ⟨fun h => ⟨congrArg (fun g : GSem nD τ sig => g.1.1) h, semOf_injective (congrArg Prod.snd h)⟩, fun ⟨h, h'⟩ => by rw [h, h']⟩

open Classical in
/-- Which of the seven a semaphore is, if it is one of them. -/
def whichOf (s : SemLoc sig) : Option Which := if h : ∃ w, semOf w = s then some h.choose else none

theorem whichOf_semOf (w : Which) : whichOf (semOf w) = some w := by
  have h : ∃ w', semOf w' = semOf w := ⟨w, rfl⟩
  unfold whichOf; rw [dif_pos h]; exact congrArg some (semOf_injective h.choose_spec)

/-- A copy's credit. -/
abbrev N : ℕ := pM.view.dmaCredit
theorem N_pos : 0 < N := View.dmaCredit_pos _ (by decide)
theorem N_slot (j : Fin 3) : (slotM j).view.dmaCredit = N := rfl

/-! ## What is handed over -/

/-- Slot `j` of device `c`'s landing buffer, holding `f`'s elements there. -/
def slotPts (c : Dev nD) (j : Fin 3) (f : (cc0_scratch1 : Ref sig .tc).ty.Contents (Elt F)) : sProp 𝕄 :=
  (slotM j).view.loc (c : Thread nD τ) ↦[(slotM j).view.set]{fullShare} f

/-- A third of the right to read the pair device `c` sends. -/
def partPts (c : Dev nD) (j : Fin 3) : sProp 𝕄 :=
  pM.view.loc (c : Thread nD τ) ↦[pM.view.set]{shares3 fullShare j} part m c

def barPay (c : Dev nD) (d : Fin 3) : sProp 𝕄 := iprop((∃ f, slotPts (hop d c) d f) ∗ reached ER (inCell (hop d c) d) 0)

def pay (c : Dev nD) : Which → Fin 3 → sProp 𝕄
  | none, d => barPay c d
  | some (false, j), _ => partPts m c j
  | some (true, j), _ => slotPts c j (gathered m c)

theorem pay_bar (c : Dev nD) (d : Fin 3) : pay m c none d = barPay c d := rfl
theorem pay_out (c : Dev nD) (j d : Fin 3) : pay m c (some (false, j)) d = partPts m c j := rfl
theorem pay_in (c : Dev nD) (j d : Fin 3) : pay m c (some (true, j)) d = slotPts c j (gathered m c) := rfl

instance pay_storable (c : Dev nD) (w : Which) (d : Fin 3) : BI.Storable (upEmb : UEmb _ 𝕄) (pay (F := F) m c w d) := by
  rcases w with _ | ⟨_ | _, j⟩
  · unfold pay barPay slotPts; infer_instance
  · unfold pay partPts; infer_instance
  · unfold pay slotPts; infer_instance

/-! ## The schedule -/

def dutiesOf : Which → Finset (Fin 3)
  | none => Finset.univ
  | some _ => {0}
def amountOf : Which → ℕ
  | none => 1
  | some _ => N

theorem amountOf_pos (w : Which) : 0 < amountOf w := by
  rcases w with _ | _
  · exact Nat.one_pos
  · exact N_pos

/-- One round, round 0, on each of the seven semaphores of every device. -/
def sched : Rounds.Schedule (GSem nD τ sig) (Fin 3) 𝕄 where
  duties g r := if r = 0 ∧ g.1.2 = .tc then (whichOf g.2).elim ∅ dutiesOf else ∅
  unitless _ := False
  amount g _ _ := (whichOf g.2).elim 1 amountOf
  payload g _ d := (whichOf g.2).elim iprop(emp) (fun w => pay m g.1.1 w d)
  amount_pos g _ _ _ := by
    rcases whichOf g.2 with _ | w
    · exact Nat.one_pos
    · exact amountOf_pos w

instance sched_payload_storable (g : GSem nD τ sig) (r : ℕ) (d : Fin 3) :
    BI.Storable (upEmb : UEmb _ 𝕄) ((sched (F := F) m).payload g r d) := by
  show BI.Storable upEmb ((whichOf g.2).elim iprop(emp) (fun w => pay m g.1.1 w d))
  rcases whichOf g.2 with _ | w
  · exact (inferInstance : BI.Storable (upEmb : UEmb _ 𝕄) iprop(emp))
  · exact pay_storable m g.1.1 w d

section Sched
variable (c : Dev nD) (w : Which)

theorem duties_cell : (sched (F := F) m).duties (cell c w) 0 = dutiesOf w := by
  dsimp only [sched]; rw [if_pos ⟨rfl, rfl⟩, whichOf_semOf]; rfl
theorem duties_later (g : GSem nD τ sig) : ∀ r, 1 ≤ r → (sched (F := F) m).duties g r = ∅ :=
  fun r hr => by dsimp only [sched]; rw [if_neg fun h => by omega]
theorem amount_cell (d : Fin 3) : (sched (F := F) m).amount (cell c w) 0 d = amountOf w := by
  dsimp only [sched]; rw [whichOf_semOf]; rfl
theorem payload_cell (d : Fin 3) : (sched (F := F) m).payload (cell c w) 0 d = pay m c w d := by
  dsimp only [sched]; rw [whichOf_semOf]; rfl

theorem expect_cell : (sched (F := F) m).expect (cell c w) 0 = (dutiesOf w).card * amountOf w := by
  unfold Schedule.expect Schedule.amountOf
  rw [duties_cell, Finset.sum_congr rfl fun d _ => amount_cell m c w d, Finset.sum_const, smul_eq_mul]

/-- All that a semaphore's round hands over. -/
theorem rest_cell : bigSep ((sched (F := F) m).duties (cell c w) 0 \ ∅) (fun d => (sched (F := F) m).payload (cell c w) 0 d)
    = bigSep (dutiesOf w) (pay m c w) := by
  rw [Finset.sdiff_empty, duties_cell]; exact bigSep_congr fun d _ => payload_cell m c w d

end Sched

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem rest_bar (c : Dev nD) : bigSep (dutiesOf none) (pay m c none) = iprop(barPay c 0 ∗ barPay c 1 ∗ barPay (F := F) c 2) := bigSep_fin3 _
theorem rest_xfer (c : Dev nD) (x : Bool × Fin 3) : bigSep (dutiesOf (some x)) (pay m c (some x)) = pay m c (some x) 0 := bigSep_singleton

/-! ## What each device owes at launch, and the levels -/

abbrev Owed : Type := CellTallies nD τ sig Unit

/-- Copy `k`'s credit at the device it goes to, and one unit at that device's barrier. -/
abbrev owedIn (c : Dev nD) (k : Fin 3) : Owed := tallyAt (inCell (hop k c) k) () N
abbrev owedBar (c : Dev nD) (k : Fin 3) : Owed := tallyAt (barCell (hop k c)) () 1

/-- The three copies, the first of them last to be added, and on top of them the three barrier units likewise. -/
abbrev owedCopies (c : Dev nD) : Owed := owedIn c 2 + owedIn c 1 + owedIn c 0
def O₀ (c : Dev nD) : Owed := owedCopies c + owedBar c 2 + owedBar c 1 + owedBar c 0

theorem add_turned (a b d : Owed) : d + b + a = a + b + d := by rw [add_comm (d + b) a, add_comm d b, add_assoc]
theorem owedCopies_eq (c : Dev nD) : owedCopies c = ∑ k, owedIn c k := by
  rw [Fin.sum_univ_three]; exact add_turned _ _ _
theorem O₀_eq (c : Dev nD) : O₀ c = (∑ k, owedIn c k) + ∑ k, owedBar c k := by
  unfold O₀
  rw [owedCopies_eq, Fin.sum_univ_three (owedBar c), add_assoc _ (owedBar c 2), add_assoc _ (owedBar c 2 + _), add_turned]

def L (g : GSem nD τ sig) : Finset Unit := if g.1.2 = .tc then {()} else ∅
/-- Barriers at 1, transfers coming in at 2, everything else at 0. -/
def lvOf : Which → ℕ
  | none => 1
  | some (true, _) => 2
  | some (false, _) => 0
def lv (g : GSem nD τ sig) (_ : Unit) : ℕ := (whichOf g.2).elim 0 lvOf

theorem lv_cell (c : Dev nD) (w : Which) (u : Unit) : lv (cell c w) u = lvOf w := by
  show (whichOf (semOf w)).elim 0 lvOf = _
  rw [whichOf_semOf]; rfl
theorem lv_bar (c : Dev nD) (u : Unit) : lv (barCell c) u = 1 := lv_cell c none u
theorem lv_in (c : Dev nD) (j : Fin 3) (u : Unit) : lv (inCell c j) u = 2 := lv_cell c (some (true, j)) u

theorem L_of_ne (g : GSem nD τ sig) (h : g.1.2 ≠ .tc) : L g = ∅ := if_neg h
theorem L_tc (c : Dev nD) (sm : SemLoc sig) : L ((c : Thread nD τ), sm) = {()} := if_pos rfl

theorem sum_owed_pos {T : Fin 3 → Owed} {g : GSem nD τ sig} {u : Unit} (h : 0 < (∑ k, T k) g u) : ∃ k, 0 < T k g u := by
  by_contra hn
  have hz (k : Fin 3) : T k g u = 0 := by by_contra h'; exact hn ⟨k, Nat.pos_of_ne_zero h'⟩
  rw [Fin.sum_univ_three, Pi.add_apply, Finsupp.add_apply, Pi.add_apply, Finsupp.add_apply, hz, hz, hz] at h
  exact Nat.lt_irrefl 0 h

theorem cell_of_pos {g g' : GSem nD τ sig} {u : Unit} {n : ℕ} (h : 0 < (tallyAt g () n : Owed) g' u) : g' = g := by
  rw [tallyAt_apply] at h
  by_contra hn
  rw [if_neg fun h' => hn h'.1] at h
  exact Nat.lt_irrefl 0 h

theorem owedCopies_pos {c : Dev nD} {g : GSem nD τ sig} {u : Unit} (h : 0 < owedCopies c g u) : ∃ k, g = inCell (hop k c) k := by
  rw [owedCopies_eq] at h
  obtain ⟨k, hk⟩ := sum_owed_pos h
  exact ⟨k, cell_of_pos hk⟩

theorem O₀_pos {c : Dev nD} {g : GSem nD τ sig} {u : Unit} (h : 0 < O₀ c g u) :
    (∃ k, g = inCell (hop k c) k) ∨ ∃ k, g = barCell (hop k c) := by
  rw [O₀_eq, Pi.add_apply, Finsupp.add_apply] at h
  rcases Nat.add_pos_iff_pos_or_pos.mp h with h | h
  · obtain ⟨k, hk⟩ := sum_owed_pos h; exact .inl ⟨k, cell_of_pos hk⟩
  · obtain ⟨k, hk⟩ := sum_owed_pos h; exact .inr ⟨k, cell_of_pos hk⟩

/-- A semaphore at level 0 may be waited on whatever of the launch's debt is left. -/
theorem mayWait_stage (c : Dev nD) (q : DmaSem sig) (hq : ∀ u, lv ((c : Thread nD τ), .dma q) u = 0) (O : Owed) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; exact (hq _).le)
      (fun g u hg => by
        rcases O₀_pos hg with ⟨k, rfl⟩ | ⟨k, rfl⟩
        · rw [lv_in]; decide
        · rw [lv_bar]; decide)
  · rw [MayWait_zero]; iintro -; iempintro

/-- At its barrier a device owes the three copies only, all of them above the barrier. -/
theorem mayWait_bar (c : Dev nD) : (levAts L lv : sProp 𝕄) ⊢ MayWait (c : Thread nD τ) (.reg barS) () (owedCopies c) :=
  MayOwe.of_cut (L := L) (lev := lv) 1 (fun p hp => by rw [Finset.mem_singleton.mp hp, L_tc]; exact Finset.mem_singleton_self _)
    (fun g u hg => by obtain ⟨k, rfl⟩ := owedCopies_pos hg; exact Finset.mem_singleton_self _)
    (fun p hp => by rw [Finset.mem_singleton.mp hp]; exact (lv_bar c _).le)
    (fun g u hg => by obtain ⟨k, rfl⟩ := owedCopies_pos hg; rw [lv_in]; decide)

end Cert.KernelIdeal.Mesh

end
-- ==== Proof.KernelIdeal.Body.lean ====
/-
  One device's run of the kernel: from what the launch gives it to its result written out, every semaphore back at zero.
-/
module

public import proofs.«01_k».proof.Proof.KernelIdeal.Schedule

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device holds before and after -/

/-- The invariants of every device's seven semaphores, and that each has reached round 0. -/
def records (K : Dev nD × Which → ℕ) : sProp 𝕄 :=
  iprop((bigSep Finset.univ fun cw : Dev nD × Which => cellInv ER (sched m) (K cw) (cell cw.1 cw.2))
    ∗ bigSep Finset.univ fun cw : Dev nD × Which => reached ER (cell cw.1 cw.2) 0)

instance records_persistent (K : Dev nD × Which → ℕ) : BI.Persistent (records m K) := by unfold records; infer_instance

theorem record_inv (K : Dev nD × Which → ℕ) (c : Dev nD) (w : Which) :
    records m K ⊢ cellInv ER (sched m) (K (c, w)) (cell c w) := by
  unfold records
  iintro ⟨H, -⟩
  iapply (show (bigSep Finset.univ fun cw : Dev nD × Which => (cellInv ER (sched m) (K cw) (cell cw.1 cw.2) : sProp 𝕄)) ⊢ cellInv ER (sched m) (K (c, w)) (cell c w)
    from bigSep_elim (Finset.mem_univ (c, w)))
  iexact H
theorem record_reached (K : Dev nD × Which → ℕ) (c : Dev nD) (w : Which) : records m K ⊢ reached ER (cell c w) 0 := by
  unfold records
  iintro ⟨-, H⟩
  iapply (show (bigSep Finset.univ fun cw : Dev nD × Which => (reached ER (cell cw.1 cw.2) 0 : sProp 𝕄)) ⊢ reached ER (cell c w) 0
    from bigSep_elim (Finset.mem_univ (c, w)))
  iexact H

/-- The right to pay the duties device `c` pays with its signal, and its copy, number `k`. -/
def dueToks (c : Dev nD) (k : Fin 3) : sProp 𝕄 :=
  iprop(dutyTok ER (barCell (hop k c)) 0 k.rev ∗ dutyTok ER (outCell c k) 0 0 ∗ dutyTok ER (inCell (hop k c) k) 0 0)

/-- Transfer `k`'s two semaphores of device `c` at the start of their round. -/
def atXfer (c : Dev nD) (k : Fin 3) : sProp 𝕄 := iprop(atPos ER (outCell c k) 0 ∅ 0 ∗ atPos ER (inCell c k) 0 ∅ 0)

def linear (c : Dev nD) : sProp 𝕄 :=
  iprop(atPos ER (barCell c) 0 ∅ 0 ∗ (atXfer c 0 ∗ atXfer c 1 ∗ atXfer c 2) ∗ dueToks c 0 ∗ dueToks c 1 ∗ dueToks (F := F) c 2)

def ghost (K : Dev nD × Which → ℕ) (c : Dev nD) : sProp 𝕄 := iprop(records m K ∗ linear c)

/-- The credit a device's own waits spend: three units at the barrier, a copy's at each of its three incoming semaphores. -/
def credits (c : Dev nD) : sProp 𝕄 :=
  iprop(cred (tallyAt (barCell c) () 3) ∗ cred (tallyAt (inCell c 0) () N) ∗ cred (tallyAt (inCell c 1) () N) ∗ cred (tallyAt (inCell c 2) () N))

def start (c : Dev nD) : sProp 𝕄 := iprop((∃ K, ghost m K c) ∗ credits c ∗ levAts L lv)

/-- The pair's buffer and the landing buffer, whole. -/
abbrev partBuf (c : Dev nD) (f : (cc0_scratch0 : Ref sig .tc).ty.Contents (Elt F)) : sProp 𝕄 :=
  ((c : Thread nD τ).loc cc0_scratch0) ↦{fullShare} f
abbrev landBuf (c : Dev nD) (f : (cc0_scratch1 : Ref sig .tc).ty.Contents (Elt F)) : sProp 𝕄 :=
  ((c : Thread nD τ).loc cc0_scratch1) ↦{fullShare} f

def zeroXfer (c : Dev nD) (k : Fin 3) : sProp 𝕄 := iprop(semVal (outCell c k) 0 ∗ semVal (inCell c k) 0)

def Φ₀ (c : Dev nD) : sProp 𝕄 := iprop(start m c ∗ (∃ f, partBuf c f) ∗ ∃ f, landBuf c f)
def Φ₁ (c : Dev nD) : sProp 𝕄 :=
  iprop((∃ f, partBuf c f) ∗ (∃ f, landBuf c f) ∗ semVal (barCell c) 0 ∗ zeroXfer c 0 ∗ zeroXfer c 1 ∗ zeroXfer (F := F) c 2)

def dats (_ : Fin 1) (c : Dev nD) : Dat τ (Elt F) Unit ℕ UU ℕ cfg0 c where
  A w := m ((cfg0.win w).arr.view.loc (c : Thread nD τ))
  after w _ := match w with
    | ⟨0, _⟩ => block m c
    | ⟨1, _⟩ => result m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## Cutting the two buffers up and putting them together -/

theorem landBuf_slots (c : Dev nD) (f : (cc0_scratch1 : Ref sig .tc).ty.Contents (Elt F)) :
    landBuf c f = iprop(slotPts c 0 f ∗ slotPts c 1 f ∗ slotPts c 2 f) := by
  have h := Ring.pointsTo_blocks (Ix := Unit) (Val := Elt F) (Name := ℕ) (U := UU) (Lvl := ℕ) (ℓ := (c : Thread nD τ).loc cc0_scratch1) slotSet slots_disjoint slots_cover
    (q := fullShare) f
  rw [bigSep_fin3] at h
  exact h

theorem partBuf_thirds (c : Dev nD) : partBuf c (part m c) ⊣⊢ iprop(partPts m c 0 ∗ partPts m c 1 ∗ partPts m c 2) := by
  have h := Ring.pointsTo_thirds (Ix := Unit) (Val := Elt F) (Name := ℕ) (U := UU) (Lvl := ℕ) (ℓ := (c : Thread nD τ).loc cc0_scratch0) (I := Finset.univ)
    fullShare (part m c)
  unfold partPts
  rw [show pM.view.set = Finset.univ from View.set_whole _]
  exact h

/-! ## The steps, each stated once for whichever signal, copy or wait it is -/

abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Steps
variable (K : Dev nD × Which → ℕ) (c : Dev nD)

/-- Signal `j`: a unit at the barrier of the device `j + 1` places on, and with it the slot that device copies into. -/
theorem step_signal {α : Type} {Q : α → sProp 𝕄} {k : PUnit → Prog (TpuEff nD τ sig (Elt F) Λ₀ .tc) α}
    (j : Fin 3) (n : Dev nD) (hn : n = hop j c) (O : Owed) (W : Waits sig Unit) :
    iprop(records m K ∗ owes (c : Thread nD τ) (O + owedBar c j) W ∗ dutyTok ER (barCell (hop j c)) 0 j.rev ∗ (∃ f, slotPts c j.rev f))
      ⊢ iprop((owes (c : Thread nD τ) O W -∗ wpc c (k ⟨⟩) Q) -∗ wpc c (.op (.semSignal (n : Thread nD τ) barS 1) k) Q) := by
  subst hn
  iintro ⟨#HR, HO, Ht, Hs⟩ Hk
  iapply (Rounds.wp_signal 𝒱₀ ER (sched m) (c : Thread nD τ) none (dst := (hop j c : Thread nD τ)) (κ := K (hop j c, none))
      (d := j.rev) (by rw [duties_cell m (hop j c) none]; exact Finset.mem_univ _) (amount_cell m (hop j c) none j.rev) () O rfl) $$ [HO Ht Hs]
  · isplitr; · iapply (record_inv m K (hop j c) none); iexact HR
    isplitl [HO]; · iexact HO
    isplitl [Ht]; · iexact Ht
    isplitl [Hs]
    · rw [payload_cell m (hop j c) none]; rw [pay_bar]; unfold barPay; rw [hop_rev]
      isplitl [Hs]; · iexact Hs
      iapply (record_reached m K c (some (true, j.rev))); iexact HR
    · iapply (record_reached m K (hop j c) none); iexact HR
  iexact Hk

/-- The wait at the barrier: the three slots this device copies into. -/
theorem step_barrier {α : Type} {Q : α → sProp 𝕄} {k : PUnit → Prog (TpuEff nD τ sig (Elt F) Λ₀ .tc) α}
    (W : Waits sig Unit) :
    iprop(records m K ∗ levAts L lv ∗ owes (c : Thread nD τ) (owedCopies c) W ∗ cred (tallyAt (barCell c) () 3) ∗ atPos ER (barCell c) 0 ∅ 0)
      ⊢ iprop(((∃ W', owes (c : Thread nD τ) (owedCopies c) W') ∗ semVal (barCell c) 0
              ∗ (∃ f, slotPts (hop 0 c) 0 f) ∗ (∃ f, slotPts (hop 1 c) 1 f) ∗ (∃ f, slotPts (hop 2 c) 2 f) -∗ wpc c (k ⟨⟩) Q)
          -∗ wpc c (.op (.semWait barS 3) k) Q) := by
  iintro ⟨#HR, #Hlev, HO, Hc, Hat⟩ Hk
  ihave #HI := (record_inv m K c none) $$ HR
  iapply (Rounds.wp_wait_rest_token 𝒱₀ ER (sched m) (c : Thread nD τ) none (κ := K (c, none))
      (wpE_semWait_eq 𝒱₀ (c : Thread nD τ) none Set.univ) (Set.mem_univ _) () (O := owedCopies c) (W := W) (R := 0) (m := 0) (T := ∅)
      (by rw [expect_cell m c none]; rfl)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq ((rest_cell m c none).trans (rest_bar m c))) $$ Hpay
  unfold barPay
  icases Hp with ⟨⟨H0, -⟩, ⟨H1, -⟩, H2, -⟩
  imod (Rounds.cell_close ER (sched m) (Set.mem_univ (K (c, none))) (fun h => h) (R := 0 + 1) (duties_later m (barCell c))) $$ [Hat] with Hz
  · isplitr; · iexact HI
    iexact Hat
  iapply Hk
  isplitl [HO]; · iexists _; iexact HO
  isplitl [Hz]; · iexact Hz
  isplitl [H0]; · iexact H0
  isplitl [H1]; · iexact H1
  iexact H2

/-- Copy `j`: this device's pair of rows into slot `j` of the device `j + 1` places on. -/
theorem step_copy {α : Type} {Q : α → sProp 𝕄} {k : PUnit → Prog (TpuEff nD τ sig (Elt F) Λ₀ .tc) α}
    (j : Fin 3) (n : Dev nD) (hn : n = hop j c) (O : Owed) (W : Waits sig Unit)
    {hsc : (slotM j : Memref sig (Dev.tc n : Thread nD τ).2.kind .vmem S2x512 .f32).view.ref.isScScratch = false}
    {hsrc : pM.view.WordExact} {hdst : (slotM j).view.WordExact}
    {hsem : DmaTarget.Typed .vmem (.dma (inS j)) (.remote (Dev.tc n : Thread nD τ) (slotM j) (.dma (outS j)) hsc)} :
    iprop(records m K ∗ partPts m c j ∗ (∃ f, slotPts (hop j c) j f) ∗ owes (c : Thread nD τ) (O + owedIn c j) W
        ∗ dutyTok ER (outCell c j) 0 0 ∗ dutyTok ER (inCell (hop j c) j) 0 0)
      ⊢ iprop((cred (tallyAt (outCell c j) () N) ∗ owes (c : Thread nD τ) O W -∗ wpc c (k ⟨⟩) Q)
          -∗ wpc c (.op (.enqueueDma pM (.remote (Dev.tc n : Thread nD τ) (slotM j) (.dma (outS j)) hsc) (.dma (inS j)) hsrc hdst hsem) k) Q) := by
  subst hn
  have hland (fd : (cc0_scratch1 : Ref sig .tc).ty.Contents (Elt F)) :
      ((slotM j).view.loc (hop j c : Thread nD τ) ↦[(slotM j).view.set]{fullShare}
          ((slotM j).view.write (Elt F) fd (pM.view.read (Elt F) (part m c)) Finset.univ) : sProp 𝕄)
        ⊢ (sched (F := F) m).payload (inCell (hop j c) j) 0 0 := by
    rw [payload_cell m (hop j c) (some (true, j)), pay_in]
    unfold slotPts
    refine Entails.of_eq (pointsTo_congr fun i hi => ?_)
    have h := landed m (hop j c) j fd i hi
    rw [hop_rev] at h
    exact h
  have hback : (pM.view.loc (c : Thread nD τ) ↦[pM.view.set]{shares3 fullShare j} part m c : sProp 𝕄)
      ⊢ (sched (F := F) m).payload (outCell c j) 0 0 := by
    rw [payload_cell m c (some (false, j)), pay_out]; exact BI.Entails.refl _
  have hN : (slotM j).view.amount (.dma (inS j)) = N := N_slot j
  have hd₁ : (0 : Fin 3) ∈ (sched (F := F) m).duties (outCell c j) 0 := by rw [duties_cell m c (some (false, j))]; exact Finset.mem_singleton_self _
  have hd₂ : (0 : Fin 3) ∈ (sched (F := F) m).duties (inCell (hop j c) j) 0 := by
    rw [duties_cell m (hop j c) (some (true, j))]; exact Finset.mem_singleton_self _
  have hk₁ : (sched (F := F) m).amount (outCell c j) 0 0 = N := amount_cell m c (some (false, j)) 0
  have hk₂ : (sched (F := F) m).amount (inCell (hop j c) j) 0 0 = N := amount_cell m (hop j c) (some (true, j)) 0
  have hsend (fd : (cc0_scratch1 : Ref sig .tc).ty.Contents (Elt F)) :
      iprop(cellInv ER (sched m) (K (c, some (false, j))) (outCell c j) ∗ cellInv ER (sched m) (K (hop j c, some (true, j))) (inCell (hop j c) j)
          ∗ (pM.view.loc (c : Thread nD τ) ↦[pM.view.set]{shares3 fullShare j} part m c)
          ∗ ((slotM j).view.loc (hop j c : Thread nD τ) ↦[(slotM j).view.set]{fullShare} fd)
          ∗ owes (c : Thread nD τ) (O + owedIn c j) W
          ∗ dutyTok ER (outCell c j) 0 0 ∗ reached ER (outCell c j) 0
          ∗ dutyTok ER (inCell (hop j c) j) 0 0 ∗ reached ER (inCell (hop j c) j) 0)
        ⊢ iprop((cred (tallyAt (outCell c j) () N) ∗ owes (c : Thread nD τ) O W -∗ wpc c (k ⟨⟩) Q)
            -∗ wpc c (.op (.enqueueDma pM (.remote (Dev.tc (hop j c) : Thread nD τ) (slotM j) (.dma (outS j)) hsc) (.dma (inS j)) hsrc hdst hsem) k) Q) :=
    Rounds.wp_send_pointsTo (defs := defs₀ (F := F)) (c' := (hop j c : Thread nD τ)) (Q := Q) (k := k) (src := pM) (dst := slotM j) (hsc := hsc)
      (hsrc := hsrc) (hdst := hdst) (hsem := hsem) (fs := part m c) (q := shares3 fullShare j) (Es := Set.univ)
      𝒱₀ ER (sched m) (c : Thread nD τ) none (κ₁ := K (c, some (false, j))) (κ₂ := K (hop j c, some (true, j)))
      (r₁ := 0) (r₂ := 0) (d₁ := 0) (d₂ := 0) (fd := fd)
      hd₁ hd₂ () () N hN hk₁ hk₂ O rfl (W := W)
      hback (hland fd)
  iintro ⟨#HR, Hp, ⟨%fd, Hs⟩, HO, Ht, Ht'⟩ Hk
  unfold partPts slotPts
  iapply (hsend fd) $$ [Hp Hs HO Ht Ht']
  · isplitr; · iapply (record_inv m K c (some (false, j))); iexact HR
    isplitr; · iapply (record_inv m K (hop j c) (some (true, j))); iexact HR
    isplitl [Hp]; · iexact Hp
    isplitl [Hs]; · iexact Hs
    isplitl [HO]; · iexact HO
    isplitl [Ht]; · iexact Ht
    isplitr; · iapply (record_reached m K c (some (false, j))); iexact HR
    isplitl [Ht']; · iexact Ht'
    iapply (record_reached m K (hop j c) (some (true, j))); iexact HR
  iexact Hk

/-- A wait on one of the six transfer semaphores `x`: what that transfer's round hands over, and the semaphore's counter. -/
theorem step_wait {α : Type} {Q : α → sProp 𝕄} {k : PUnit → Prog (TpuEff nD τ sig (Elt F) Λ₀ .tc) α}
    (x : Bool × Fin 3) (q : DmaSem sig) (hq : semOf (some x) = .dma q)
    {src dst : Memref sig .tc .vmem S2x512 .f32} {hsrc : src.view.WordExact} {hdst : dst.view.WordExact} (hN : dst.view.dmaCredit = N)
    (W : Waits sig Unit) :
    iprop(records m K ∗ owes (c : Thread nD τ) 0 W ∗ cred (tallyAt (cell c (some x)) () N) ∗ atPos ER (cell c (some x)) 0 ∅ 0)
      ⊢ iprop(((∃ W', owes (c : Thread nD τ) 0 W') ∗ semVal (cell c (some x)) 0 ∗ pay m c (some x) 0 -∗ wpc c (k ⟨⟩) Q)
          -∗ wpc c (.op (.waitDma2 q src dst hsrc hdst) k) Q) := by
  iintro ⟨#HR, HO, Hc, Hat⟩ Hk
  ihave #HI := (record_inv m K c (some x)) $$ HR
  iapply (Rounds.wp_wait_rest_token 𝒱₀ ER (sched m) (c : Thread nD τ) none (κ := K (c, some x)) (sm := semOf (some x)) (k' := N)
      (fun Kt => (wpE_waitDma2_eq 𝒱₀ (c : Thread nD τ) none Set.univ Kt).trans (by rw [hN, hq])) (Set.mem_univ _) () (O := 0) (W := W) (R := 0) (m := 0) (T := ∅)
      (by rw [expect_cell m c (some x), Nat.zero_add]; exact (Nat.one_mul N).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_cell m c (some x)).trans (rest_xfer m c x))) $$ Hpay
  imod (Rounds.cell_close ER (sched m) (Set.mem_univ (K (c, some x))) (fun h => h) (R := 0 + 1) (duties_later m (cell c (some x)))) $$ [Hat] with Hz
  · isplitr; · iexact HI
    iexact Hat
  iapply Hk
  isplitl [HO]; · iexists _; iexact HO
  isplitl [Hz]; · iexact Hz
  iexact Hp

end Steps

/-! ## The loads and stores -/

theorem zero2 : (![0, 0] : Fin 2 → Nat) = fun _ => 0 := funext fun a => by fin_cases a <;> rfl

theorem read_x (h : ∀ a, (![0, 0] : Fin 2 → Nat) a + S512x512.size a ≤ S512x512.size a) (f : (cc0_stg0_0 : Ref sig .tc).ty.Contents (Elt F)) :
    xM.view.readAt (Elt F) (Rect.unit (s := S512x512) ![0, 0] S512x512.size h).toLoadRect f = f :=
  Memref.readAt_unit_zero (Elt F) cc0_stg0_0 zero2 _ f

/-- Storing the two rows, one after the other, leaves the pair's buffer, and the result's, holding both. -/
theorem stored_part (h0 h1) (f : (cc0_scratch0 : Ref sig .tc).ty.Contents (Elt F)) (a b : Vec F S1x512 .f32) :
    (pM.access (rowR 1 h1)).write (Elt F) ((pM.access (rowR 0 h0)).write (Elt F) f a Finset.univ) b Finset.univ = stack a b :=
  (View.read_whole (Val := Elt F) cc0_scratch0 _).symm.trans (read_stores pM.view h0 h1 f a b)
theorem stored_out (h0 h1) (f : (cc0_stg1_0 : Ref sig .tc).ty.Contents (Elt F)) (a b : Vec F S1x512 .f32) :
    (oM.access (rowR 1 h1)).write (Elt F) ((oM.access (rowR 0 h0)).write (Elt F) f a Finset.univ) b Finset.univ = stack a b :=
  (View.read_whole (Val := Elt F) cc0_stg1_0 _).symm.trans (read_stores oM.view h0 h1 f a b)

theorem read_part0 (c : Dev nD) (h) : pM.view.readAt (Elt F) (rowR 0 h).toLoadRect (part m c) = k0_pay3 (block m c) :=
  funext fun x => stack_row0 _ _ h x
theorem read_part1 (c : Dev nD) (h) : pM.view.readAt (Elt F) (rowR 1 h).toLoadRect (part m c) = k0_pay4 (place c) (block m c) :=
  funext fun x => stack_row1 _ _ h x

/-- The rows read back, folded and stacked, are the result. -/
theorem folded (c : Dev nD) {v i : Vec F S1x512 .f32} {v0 i0 v1 i1 v2 i2 : Vec F S1x1x512 .f32}
    (hv : v = k0_pay3 (block m c)) (hi : i = k0_pay4 (place c) (block m c)) (hv0 : v0 = gotVal m c 0) (hi0 : i0 = gotIdx m c 0)
    (hv1 : v1 = gotVal m c 1) (hi1 : i1 = gotIdx m c 1) (hv2 : v2 = gotVal m c 2) (hi2 : i2 = gotIdx m c 2) :
    stack (k0_pay18 v i v0 i0 v1 i1 v2 i2) (k0_pay19 v i v0 i0 v1 i1 v2 i2) = result m c := by
  subst hv hi hv0 hi0 hv1 hi1 hv2 hi2; rfl

/-! ## The body -/

section Body
variable (K : Dev nD × Which → ℕ) (c : Dev nD)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_0 (t : Fin cfg0.N) : (cfg0.win (0 : Fin 2)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def around (c : Dev nD) : sProp 𝕄 :=
  iprop((dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPre (c : Dev nD) : sProp 𝕄 :=
  iprop((ghost m K c ∗ credits c ∗ levAts L lv ∗ (∃ f, partBuf c f) ∗ ∃ f, landBuf c f) ∗ around m c)

def bodyPost (c : Dev nD) : sProp 𝕄 :=
  iprop(Φ₁ c ∗ (dats m 0 c).owesAt () t₀.succ ∗ stg c cc0_stg0_0 (block m c) ∗ stg c cc0_stg1_0 (result m c))

set_option maxHeartbeats 1600000 in
/-- The kernel's run on device `c`, one step of the program after another. -/
theorem sound_body (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre around ghost linear credits atXfer dueToks
  iintro ⟨⟨⟨⟨#HR, HaB, ⟨⟨HaO0, HaI0⟩, ⟨HaO1, HaI1⟩, HaO2, HaI2⟩, ⟨HtB0, HtO0, HtI0⟩, ⟨HtB1, HtO1, HtI1⟩, HtB2, HtO2, HtI2⟩,
      ⟨HcB, HcI0, HcI1, HcI2⟩, #Hlev, ⟨%fp, Hp⟩, ⟨%fg, Hg⟩⟩,
    Ho, ⟨%d0, %g0, %hg0, Hx⟩, ⟨%d1, %g1, %hg1, Hout⟩⟩, Hk⟩
  have hx : g0 = block m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  ihave Hs := (Entails.of_eq (landBuf_slots c fg)) $$ Hg
  icases Hs with ⟨Hs0, Hs1, Hs2⟩
  -- the three signals, each with the slot it lends
  iapply (step_signal m K c 0 _ (signal_to c).1 _ W) $$ [HO HtB0 Hs2]
  · isplitr; · iexact HR
    isplitl [HO]; · iexact HO
    isplitl [HtB0]; · iexact HtB0
    iexists fg; iexact Hs2
  iintro HO
  iapply (step_signal m K c 1 _ (signal_to c).2.1 _ W) $$ [HO HtB1 Hs1]
  · isplitr; · iexact HR
    isplitl [HO]; · iexact HO
    isplitl [HtB1]; · iexact HtB1
    iexists fg; iexact Hs1
  iintro HO
  iapply (step_signal m K c 2 _ (signal_to c).2.2 _ W) $$ [HO HtB2 Hs0]
  · isplitr; · iexact HR
    isplitl [HO]; · iexact HO
    isplitl [HtB2]; · iexact HtB2
    iexists fg; iexact Hs0
  iintro HO
  -- the block read, the pair worked out and stored
  iapply (wp_load 𝒱₀ (c : Thread nD τ) none Set.univ (m := xM) (Finset.subset_univ _)) $$ Hx; iintro Hx
  rw [read_x]
  iapply (wp_load 𝒱₀ (c : Thread nD τ) none Set.univ (m := pM) (Finset.subset_univ _)) $$ Hp; iintro Hp
  iapply (wp_store 𝒱₀ (c : Thread nD τ) none Set.univ (m := pM) (r := rowR 0 inb_S2x512_S1x512_0_0) (Mk := Finset.univ) (Finset.subset_univ _)) $$ Hp; iintro Hp
  iapply (wp_load 𝒱₀ (c : Thread nD τ) none Set.univ (m := pM) (Finset.subset_univ _)) $$ Hp; iintro Hp
  iapply (wp_store 𝒱₀ (c : Thread nD τ) none Set.univ (m := pM) (r := rowR 1 inb_S2x512_S1x512_1_0) (Mk := Finset.univ) (Finset.subset_univ _)) $$ Hp; iintro Hp
  rw [stored_part]
  -- the wait for the three peers, and the three copies of the pair into the slots they lent
  iapply (step_barrier m K c W) $$ [HO HcB HaB]
  · isplitr; · iexact HR
    isplitr; · iexact Hlev
    isplitl [HO]; · iexact HO
    isplitl [HcB] <;> iassumption
  iintro ⟨⟨%W1, HO⟩, HzB, Hr0, Hr1, Hr2⟩
  ihave Ht := (partBuf_thirds m c).1 $$ [Hp]
  · iexact Hp
  icases Ht with ⟨Hp0, Hp1, Hp2⟩
  iapply (step_copy m K c 0 _ (copy_to c).1 (owedIn c 2 + owedIn c 1) W1) $$ [Hp0 Hr0 HO HtO0 HtI0]
  · isplitr; · iexact HR
    isplitl [Hp0]; · iexact Hp0
    isplitl [Hr0]; · iexact Hr0
    isplitl [HO]; · iexact HO
    isplitl [HtO0] <;> iassumption
  iintro ⟨HcO0, HO⟩
  iapply (step_copy m K c 1 _ (copy_to c).2.1 (owedIn c 2) W1) $$ [Hp1 Hr1 HO HtO1 HtI1]
  · isplitr; · iexact HR
    isplitl [Hp1]; · iexact Hp1
    isplitl [Hr1]; · iexact Hr1
    isplitl [HO]; · iexact HO
    isplitl [HtO1] <;> iassumption
  iintro ⟨HcO1, HO⟩
  ihave HO := (Entails.of_eq (congrArg (fun O => (owes (c : Thread nD τ) O W1 : sProp 𝕄)) (zero_add (owedIn c 2)).symm)) $$ HO
  iapply (step_copy m K c 2 _ (copy_to c).2.2 0 W1) $$ [Hp2 Hr2 HO HtO2 HtI2]
  · isplitr; · iexact HR
    isplitl [Hp2]; · iexact Hp2
    isplitl [Hr2]; · iexact Hr2
    isplitl [HO]; · iexact HO
    isplitl [HtO2] <;> iassumption
  iintro ⟨HcO2, HO⟩
  -- the six waits, out and in for each peer
  iapply (step_wait m K c (false, 0) _ rfl rfl W1) $$ [HO HcO0 HaO0]
  · isplitr; · iexact HR
    isplitl [HO]; · iexact HO
    isplitl [HcO0] <;> iassumption
  iintro ⟨⟨%W2, HO⟩, HzO0, Hp0⟩
  iapply (step_wait m K c (true, 0) _ rfl (N_slot 0) W2) $$ [HO HcI0 HaI0]
  · isplitr; · iexact HR
    isplitl [HO]; · iexact HO
    isplitl [HcI0] <;> iassumption
  iintro ⟨⟨%W3, HO⟩, HzI0, Hs0⟩
  iapply (step_wait m K c (false, 1) _ rfl rfl W3) $$ [HO HcO1 HaO1]
  · isplitr; · iexact HR
    isplitl [HO]; · iexact HO
    isplitl [HcO1] <;> iassumption
  iintro ⟨⟨%W4, HO⟩, HzO1, Hp1⟩
  iapply (step_wait m K c (true, 1) _ rfl (N_slot 1) W4) $$ [HO HcI1 HaI1]
  · isplitr; · iexact HR
    isplitl [HO]; · iexact HO
    isplitl [HcI1] <;> iassumption
  iintro ⟨⟨%W5, HO⟩, HzI1, Hs1⟩
  iapply (step_wait m K c (false, 2) _ rfl rfl W5) $$ [HO HcO2 HaO2]
  · isplitr; · iexact HR
    isplitl [HO]; · iexact HO
    isplitl [HcO2] <;> iassumption
  iintro ⟨⟨%W6, HO⟩, HzO2, Hp2⟩
  iapply (step_wait m K c (true, 2) _ rfl (N_slot 2) W6) $$ [HO HcI2 HaI2]
  · isplitr; · iexact HR
    isplitl [HO]; · iexact HO
    isplitl [HcI2] <;> iassumption
  iintro ⟨⟨%W7, HO⟩, HzI2, Hs2⟩
  simp only [pay_out, pay_in]
  ihave Hp := (partBuf_thirds m c).2 $$ [Hp0 Hp1 Hp2]
  · isplitl [Hp0]; · iexact Hp0
    isplitl [Hp1] <;> iassumption
  ihave Hg := (Entails.of_eq (landBuf_slots c (gathered m c)).symm) $$ [Hs0 Hs1 Hs2]
  · isplitl [Hs0]; · iexact Hs0
    isplitl [Hs1] <;> iassumption
  -- the rows read back, folded and stored
  iapply (wp_load 𝒱₀ (c : Thread nD τ) none Set.univ (m := pM) (Finset.subset_univ _)) $$ Hp; iintro Hp
  iapply (wp_load 𝒱₀ (c : Thread nD τ) none Set.univ (m := pM) (Finset.subset_univ _)) $$ Hp; iintro Hp
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Hout; iintro Hout
  iapply (wp_store 𝒱₀ (c : Thread nD τ) none Set.univ (m := oM) (r := rowR 0 inb_S2x512_S1x512_0_0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := rowR 1 inb_S2x512_S1x512_1_0) (Mk := Finset.univ) (Finset.subset_univ _)) $$ Hout; iintro Hout
  rw [stored_out, wp_ret]; imodintro
  iapply Hk
  unfold bodyPost Φ₁ zeroXfer Dat.owesAt Pipeline.owesWithin
  rw [show (dats m 0 c).owed t₀.succ = 0 from rfl]
  isplitl [Hp Hg HzB HzO0 HzI0 HzO1 HzI1 HzO2 HzI2]
  · isplitl [Hp]; · iexists _; iexact Hp
    isplitl [Hg]; · iexists _; iexact Hg
    isplitl [HzB]; · iexact HzB
    isplitl [HzO0 HzI0]; · isplitl [HzO0] <;> iassumption
    isplitl [HzO1 HzI1]; · isplitl [HzO1] <;> iassumption
    isplitl [HzO2] <;> iassumption
  isplitl [HO]
  · iexists W7
    isplitr; · ipureintro; exact fun _ _ => Or.inl trivial
    iexact HO
  isplitl [Hx]
  · iexists _; isplitr; · (ipureintro; rfl)
    iexact Hx
  iexists _; isplitr
  · ipureintro
    exact folded m c (read_part0 m c inb_S2x512_S1x512_0_0) (read_part1 m c inb_S2x512_S1x512_1_0) (read_got m c 0 0 inb_S3x2x512_S1x1x512_0_0_0) (read_got m c 0 1 inb_S3x2x512_S1x1x512_0_1_0) (read_got m c 1 0 inb_S3x2x512_S1x1x512_1_0_0) (read_got m c 1 1 inb_S3x2x512_S1x1x512_1_1_0)
      (read_got m c 2 0 inb_S3x2x512_S1x1x512_2_0_0) (read_got m c 2 1 inb_S3x2x512_S1x1x512_2_1_0)
  iexact Hout

/-- The obligation the launch states of the kernel's body on device `c`. -/
theorem body_obligation : BodyObligation (dats (F := F) m 0 c) (defs₀ (F := F)) 𝒱₀ () Set.univ := fun t => by
  rw [fin_N t, bigSep_W0, bigSep_W0]
  simp only [owns_whole_eq]
  show iprop(Φ₀ m c ∗ around m c) ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold Φ₀ start
  iintro ⟨⟨⟨⟨%K, Hg⟩, Hc, Hl⟩, Hp, Hs⟩, Ha⟩
  iapply (sound_body m K c fun _ => bodyPost m c)
  unfold bodyPre
  isplitr []
  · isplitr [Ha]
    · isplitl [Hg]; · iexact Hg
      isplitl [Hc]; · iexact Hc
      isplitl [Hl]; · iexact Hl
      isplitl [Hp] <;> iassumption
    iexact Ha
  · iintro H; iexact H

end Body

end Cert.KernelIdeal.Mesh

end
-- ==== Proof.KernelIdeal.Launch.lean ====
/-
  The launch: the semaphores, the credits and the rights to pay dealt out to the four devices, and with them the run of the
  whole program.
-/
module

public import proofs.«01_k».proof.Proof.KernelIdeal.Body
public import Idealize.ShloMosaic.Lib.Pipeline.CollectiveSegs

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch's memory: any contents and registers, no semaphore counting anything. -/
def s₀ : MemSt nD τ sig (Elt F) := ⟨m, fun _ => 0, ρ⟩

/-! ## The seven semaphores of each device -/

/-- The six that belong to the kernel. -/
abbrev osem (x : Bool × Fin 3) : SemLoc sig := semOf (some x)

theorem ownSemFacts : Pipeline.OwnSemFacts cfg0.spec osem := by decide +kernel

theorem share_eq (c : Dev nD) (w : Fin cfg0.W) : (dats m 0 c).share w = fullShare := by unfold Dat.share; split <;> rfl

/-- The order in which they are named: the barrier, then each transfer's two. -/
abbrev inOrder : List (Bool × Fin 3) := [(false, 0), (true, 0), (false, 1), (true, 1), (false, 2), (true, 2)]

theorem bigSep_which (Φ : Which → sProp 𝕄) :
    bigSep Finset.univ Φ = iprop(Φ none ∗ Φ (some (false, 0)) ∗ Φ (some (true, 0)) ∗ Φ (some (false, 1)) ∗ Φ (some (true, 1))
      ∗ Φ (some (false, 2)) ∗ Φ (some (true, 2))) :=
  bigSep_univ_eq_bigSepL (none :: inOrder.map some) (by decide) (by decide) Φ

theorem cellAt_injective : Function.Injective fun cw : Dev nD × Which => cell cw.1 cw.2 :=
  fun _ _ h => Prod.ext (cell_eq_iff.mp h).1 (cell_eq_iff.mp h).2
def meshCells : Finset (GSem nD τ sig) := Finset.univ.map ⟨_, cellAt_injective⟩

/-- The rights to pay device `c`'s duties, as they are made: for each `k`, one of its barrier's and transfer `k`'s two. -/
def kindOf (k : Fin 3) : Fin 3 → Which
  | 0 => none
  | 1 => some (false, k)
  | 2 => some (true, k)
def dutyOf (k : Fin 3) : Fin 3 → Fin 3
  | 0 => k.rev
  | _ => 0
abbrev tokAt (x : Dev nD × Fin 3 × Fin 3) : GSem nD τ sig × ℕ × Fin 3 := (cell x.1 (kindOf x.2.1 x.2.2), 0, dutyOf x.2.1 x.2.2)

theorem kind_duty_injective : ∀ k t k' t' : Fin 3, kindOf k t = kindOf k' t' → dutyOf k t = dutyOf k' t' → k = k' ∧ t = t' := by decide
theorem tokAt_injective : Function.Injective tokAt := by
  rintro ⟨c, k, t⟩ ⟨c', k', t'⟩ h
  obtain ⟨hc, hw⟩ := cell_eq_iff.mp (congrArg Prod.fst h)
  obtain ⟨hk, ht⟩ := kind_duty_injective k t k' t' hw (congrArg (fun g : GSem nD τ sig × ℕ × Fin 3 => g.2.2) h)
  exact Prod.ext hc (Prod.ext hk ht)

def meshToks : Finset (GSem nD τ sig × ℕ × Fin 3) := Finset.univ.map ⟨tokAt, tokAt_injective⟩

def u₀ : UU :=
  (initOf (Pipeline.cells cfgs cellOf_inj) (Pipeline.launchToks cfgs cellOf_inj), initOf meshCells meshToks)

/-! ## What each device is dealt, and what the devices make of it together -/

def madeToks (c : Dev nD) (k : Fin 3) : sProp 𝕄 :=
  iprop(dutyTok ER (barCell c) 0 k.rev ∗ dutyTok ER (outCell c k) 0 0 ∗ dutyTok ER (inCell c k) 0 0)

/-- Where a device stands at each of its semaphores: in round 0, with nothing taken. -/
def places (c : Dev nD) : sProp 𝕄 := bigSep Finset.univ fun w : Which => atPos ER (cell c w) 0 ∅ 0
def arrived (c : Dev nD) : sProp 𝕄 := bigSep Finset.univ fun w : Which => reached ER (cell c w) 0
def made (c : Dev nD) : sProp 𝕄 := bigSep Finset.univ fun k : Fin 3 => madeToks c k

def G (c : Dev nD) : sProp 𝕄 :=
  iprop((bigSep Finset.univ fun w : Which => roundState ER (sched m) (cell c w) 0) ∗ places c ∗ arrived c ∗ made c)
def G' (c : Dev nD) : sProp 𝕄 := iprop(∃ K, ghost m K c)

theorem over_cells (Φ : GSem nD τ sig → sProp 𝕄) :
    bigSep meshCells Φ = bigSep Finset.univ fun c : Dev nD => bigSep Finset.univ fun w : Which => Φ (cell c w) := by
  unfold meshCells; rw [bigSep_map, bigSep_univ_prod]; rfl
theorem over_toks : bigSep meshToks (fun x => (dutyTok ER x.1 x.2.1 x.2.2 : sProp 𝕄)) = bigSep Finset.univ fun c : Dev nD => made c := by
  unfold meshToks; rw [bigSep_map, bigSep_univ_prod]
  refine bigSep_congr fun c _ => ?_
  unfold made
  rw [bigSep_univ_prod]
  exact bigSep_congr fun k _ => by unfold madeToks; rw [bigSep_fin3]; rfl

theorem fund_mesh : BI.own (ER (initOf meshCells meshToks)) ⊢ (|==> bigSep Finset.univ (G m) : sProp 𝕄) := by
  iintro HX
  imod (Rounds.fund ER (sched m) meshCells meshToks) $$ HX with ⟨Hst, Hr, Hat, Htok⟩
  imodintro
  ihave Hst := (Entails.of_eq (over_cells fun g => roundState ER (sched m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G places arrived; simp only [bigSep_sep']
  isplitl [Hst]; · iexact Hst
  isplitl [Hat]; · iexact Hat
  isplitl [Hr] <;> iassumption

theorem ownSems0_eq (c : Dev nD) : (Pipeline.ownSems0 (Ix := Unit) (Name := ℕ) (U := UU) (Lvl := ℕ) (Val := Elt F) (τ := τ) osem c : sProp 𝕄)
    = iprop(semVal (outCell c 0) 0 ∗ semVal (inCell c 0) 0 ∗ semVal (outCell c 1) 0 ∗ semVal (inCell c 1) 0
        ∗ semVal (outCell c 2) 0 ∗ semVal (inCell c 2) 0) :=
  Pipeline.ownSems0_eq_of_list c osem inOrder (by decide) (by decide)
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores and their rounds go into its invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun w : Which => iprop(∃ κ : ℕ, cellInv ER (sched m) κ (cell c w)))
          ∗ places c ∗ arrived c ∗ made c) := by
  have hv : iprop(Pipeline.ownSems0 (Ix := Unit) (Name := ℕ) (U := UU) (Lvl := ℕ) (Val := Elt F) (τ := τ) osem c ∗ unscopedSems0 c)
      ⊢ (bigSep Finset.univ fun w : Which => semVal (cell c w) 0 : sProp 𝕄) := by
    rw [ownSems0_eq, unscopedSems0_eq, bigSep_which]
    iintro ⟨Ho, Hb⟩
    isplitl [Hb] <;> iassumption
  have hi : iprop((bigSep Finset.univ fun w : Which => semVal (cell c w) 0) ∗ bigSep Finset.univ fun w : Which => roundState ER (sched m) (cell c w) 0)
      ⊢ (|={Set.univ}=> bigSep Finset.univ fun w : Which => iprop(∃ κ : ℕ, cellInv ER (sched m) κ (cell c w)) : sProp 𝕄) := by
    rw [← bigSep_sep']
    exact (bigSep_mono fun w _ => (Rounds.body_intro ER (sched m) (cell c w)).trans inv_alloc).trans (bigSep_fupd _ _)
  unfold G
  iintro ⟨Ho, Hu, Hst, Hrest⟩
  ihave Hv := hv $$ [Ho Hu]
  · isplitl [Ho] <;> iassumption
  imod hi $$ [Hv Hst] with Hinv
  · isplitl [Hv] <;> iassumption
  imodintro
  isplitl [Hinv] <;> iassumption

theorem devices_last (Φ : Dev nD → Fin 3 → sProp 𝕄) :
    (bigSep Finset.univ fun c => bigSep Finset.univ fun k => Φ c k) = bigSep Finset.univ fun k => bigSep Finset.univ fun c => Φ c k := by
  rw [← bigSep_univ_prod (fun x : Dev nD × Fin 3 => Φ x.1 x.2), ← bigSep_univ_prod (fun x : Fin 3 × Dev nD => Φ x.2 x.1),
    bigSep_univ_equiv (Equiv.prodComm (Fin 3) (Dev nD))]
  rfl

/-- The rights to pay handed round: number `k` of each device's barrier, and of its incoming transfers, goes to the device
    that pays it. -/
theorem toks_round : (bigSep Finset.univ fun c : Dev nD => (made c : sProp 𝕄))
    = bigSep Finset.univ fun c : Dev nD => bigSep Finset.univ fun k : Fin 3 => dueToks c k := by
  unfold made
  rw [devices_last, devices_last]
  refine bigSep_congr fun k _ => ?_
  unfold madeToks dueToks
  rw [bigSep_sep', bigSep_sep', bigSep_sep', bigSep_sep',
    bigSep_univ_equiv (hop k) (fun c : Dev nD => (dutyTok ER (barCell c) 0 k.rev : sProp 𝕄)),
    bigSep_univ_equiv (hop k) (fun c : Dev nD => (dutyTok ER (inCell c k) 0 0 : sProp 𝕄))]

theorem linear_intro (c : Dev nD) : iprop(places c ∗ bigSep Finset.univ fun k : Fin 3 => dueToks c k) ⊢ (linear c : sProp 𝕄) := by
  unfold places linear atXfer
  rw [bigSep_which, bigSep_fin3]
  iintro ⟨⟨Hb, Ho0, Hi0, Ho1, Hi1, Ho2, Hi2⟩, Ht⟩
  isplitl [Hb]; · iexact Hb
  isplitr [Ht]
  · isplitl [Ho0 Hi0]; · isplitl [Ho0] <;> iassumption
    isplitl [Ho1 Hi1]; · isplitl [Ho1] <;> iassumption
    isplitl [Ho2] <;> iassumption
  iexact Ht

/-- One thing known for good can be handed to every device. -/
theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']; exact bigSep_mono h

theorem regroup :
    (bigSep Finset.univ fun c : Dev nD => iprop((bigSep Finset.univ fun w : Which => iprop(∃ κ : ℕ, cellInv ER (sched m) κ (cell c w)))
          ∗ places c ∗ arrived c ∗ made c) : sProp 𝕄)
      ⊢ bigSep Finset.univ (G' m) := by
  rw [bigSep_sep', bigSep_sep', bigSep_sep', toks_round,
    ← bigSep_univ_prod (fun cw : Dev nD × Which => iprop(∃ κ : ℕ, cellInv ER (sched m) κ (cell cw.1 cw.2)))]
  unfold arrived
  rw [← bigSep_univ_prod (fun cw : Dev nD × Which => (reached ER (cell cw.1 cw.2) 0 : sProp 𝕄))]
  iintro ⟨HI, Hat, #HR, Htok⟩
  ihave HK := (BI.bigSep_exists_pi Finset.univ (fun (cw : Dev nD × Which) (κ : ℕ) => (cellInv ER (sched m) κ (cell cw.1 cw.2) : sProp 𝕄))) $$ HI
  icases HK with ⟨%K, #HI⟩
  iapply (deal (R := records m K) (Φ := fun c : Dev nD => iprop(places c ∗ bigSep Finset.univ fun k : Fin 3 => dueToks c k)) fun c _ => by
    unfold G' ghost
    iintro ⟨HR, HL⟩
    iexists K
    isplitl [HR]; · iexact HR
    iapply (linear_intro c); iexact HL)
  isplitr
  · unfold records; isplitl <;> iassumption
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What device `d` owes at one of device `c`'s semaphores. -/
theorem owed_at (d c : Dev nD) (w : Which) :
    O₀ d (cell c w) () = (∑ k, if c = hop k d ∧ w = some (true, k) then N else 0) + ∑ k, if c = hop k d ∧ w = none then 1 else 0 := by
  have one (g : GSem nD τ sig) (n : ℕ) {p : Prop} [Decidable p] (hp : Iff (cell c w = g) p) : (tallyAt g () n : Owed) (cell c w) () = if p then n else 0 := by
    rw [tallyAt_apply]
    exact if_congr ⟨fun h => hp.mp h.1, fun h => ⟨hp.mpr h, rfl⟩⟩ rfl rfl
  rw [O₀_eq]
  simp only [Fin.sum_univ_three, Pi.add_apply, Finsupp.add_apply]
  rw [one _ _ cell_eq_iff, one _ _ cell_eq_iff, one _ _ cell_eq_iff, one _ _ cell_eq_iff, one _ _ cell_eq_iff, one _ _ cell_eq_iff]

/-- Over all the devices: the device that owes it is, for each `k`, one and only one. -/
theorem owed_all (c : Dev nD) (w : Which) :
    (∑ d : Dev nD, O₀ d (cell c w) ()) = (∑ k, if w = some (true, k) then N else 0) + ∑ k : Fin 3, if w = none then 1 else 0 := by
  have one (k : Fin 3) (p : Prop) [Decidable p] (n : ℕ) : (∑ d : Dev nD, if c = hop k d ∧ p then n else 0) = if p then n else 0 := by
    by_cases hp : p
    · rw [Finset.sum_congr rfl fun d _ => if_congr (show Iff (c = hop k d ∧ p) (d = hop k.rev c) from
        ⟨fun h => hop_eq_iff.mp h.1.symm, fun h => ⟨(hop_eq_iff.mpr h).symm, hp⟩⟩) rfl rfl, Finset.sum_ite_eq' Finset.univ, if_pos (Finset.mem_univ _), if_pos hp]
    · rw [if_neg hp]; exact Finset.sum_eq_zero fun d _ => if_neg fun h => hp h.2
  rw [Finset.sum_congr rfl fun d _ => owed_at d c w, Finset.sum_add_distrib, Finset.sum_comm, Finset.sum_comm (f := fun (d : Dev nD) (k : Fin 3) => if c = hop k d ∧ w = none then 1 else 0)]
  exact congrArg₂ _ (Finset.sum_congr rfl fun k _ => one k _ _) (Finset.sum_congr rfl fun k _ => one k _ _)

theorem launch_at (c : Dev nD) (w : Which) (n : ℕ) (hn : (∑ k, if w = some (true, k) then N else 0) + (∑ k : Fin 3, if w = none then 1 else 0) = n) :
    tallyOn (cell c w) (launchCredit (Pipeline.owing O₀) 0 (cell c w)) = (tallyAt (cell c w) () n : CellTallies nD τ sig Unit) := by
  unfold tallyAt; refine congrArg _ (Finsupp.ext fun u => ?_); cases u
  rw [Pipeline.launchCredit_owing, Finsupp.single_eq_same, owed_all, hn]

theorem credit_bar : (∑ k, if (none : Which) = some (true, k) then N else 0) + (∑ k : Fin 3, if (none : Which) = none then 1 else 0) = 3 := by
  simp
theorem credit_in (j : Fin 3) : (∑ k, if (some (true, j) : Which) = some (true, k) then N else 0) + (∑ k : Fin 3, if (some (true, j) : Which) = none then 1 else 0) = N := by
  rw [Finset.sum_congr rfl fun k _ => if_congr (show Iff ((some (true, j) : Which) = some (true, k)) (j = k) from ⟨fun h => by cases h; rfl, fun h => h ▸ rfl⟩) rfl rfl,
    Finset.sum_ite_eq Finset.univ, if_pos (Finset.mem_univ _)]
  simp

theorem creds (c : Dev nD) : (Pipeline.launchCred O₀ c : sProp 𝕄) ⊢ credits c := by
  unfold Pipeline.launchCred
  have h (Φ : SemLoc sig → sProp 𝕄) : bigSep Finset.univ Φ ⊢ bigSep Finset.univ fun w : Which => Φ (semOf w) := by
    have h' : bigSep Finset.univ Φ ⊢ bigSep (Finset.univ.map ⟨semOf, semOf_injective⟩) Φ := bigSep_subset (Finset.subset_univ _)
    rw [bigSep_map] at h'; exact h'
  refine (h _).trans ?_
  rw [bigSep_which]
  unfold credits
  rw [← launch_at c none 3 credit_bar, ← launch_at c _ N (credit_in 0), ← launch_at c _ N (credit_in 1), ← launch_at c _ N (credit_in 2)]
  iintro ⟨Hb, -, H0, -, H1, -, H2⟩
  isplitl [Hb]; · iexact Hb
  isplitl [H0]; · iexact H0
  isplitl [H1] <;> iassumption

/-! ## The conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ zeroXfer
  iintro ⟨Hp, Hg, Hb, ⟨Ho0, Hi0⟩, ⟨Ho1, Hi1⟩, Ho2, Hi2⟩
  isplitl [Hb]; · iexact Hb
  isplitr [Hp Hg]
  · isplitl [Ho0]; · iexact Ho0
    isplitl [Hi0]; · iexact Hi0
    isplitl [Ho1]; · iexact Ho1
    isplitl [Hi1]; · iexact Hi1
    isplitl [Ho2] <;> iassumption
  isplitl [Hp] <;> iassumption

theorem stage_level (c : Dev nD) (q : DmaSem sig) (hq : ∀ w, semOf w ≠ .dma q) (u : Unit) : lv ((c : Thread nD τ), .dma q) u = 0 := by
  show (whichOf (SemLoc.dma q)).elim 0 lvOf = 0
  unfold whichOf; rw [dif_neg fun ⟨w, h⟩ => hq w h]; rfl

theorem waits (c : Dev nD) : (levAts L lv : sProp 𝕄) ⊢ Pipeline.cellsWaits cfgs (dats m) () 0 c :=
  Pipeline.cellsWaits_intro cfgs (dats m) () 0 c fun w s t =>
    mayWait_stage c _ (stage_level c _ (by fin_cases w <;> fin_cases s <;> decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory whose semaphores are at zero, the program on the four devices ends, every device's arrays hold what the
    kernel leaves there, and every semaphore is at zero again. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The one block of each array is the whole array. -/
theorem whole_x (c : Dev nD) (f : Buf (Elt F) ((c : Thread nD τ).loc main_arg0)) : (win0_0.blk (0 : Fin 1)).view.read (Elt F) f = f := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) f
theorem whole_o (c : Dev nD) (f : Buf (Elt F) ((c : Thread nD τ).loc main_v1)) : (win0_1.blk (0 : Fin 1)).view.read (Elt F) f = f := by
  have hz : (fun a => (win0_1.index (0 : Fin 1)) a * main_v1.ty.shape.size a) = fun _ => 0 := funext fun a => by fin_cases a <;> decide
  exact Memref.read_access_unit_zero (Elt F) main_v1 hz (fun a => by fin_cases a <;> decide) f

theorem block_eq (c : Dev nD) : block m c = m ((c : Thread nD τ).loc main_arg0) := whole_x c _

theorem final_x (c : Dev nD) : finalA m c (0 : Fin 2) = m ((c : Thread nD τ).loc main_arg0) := (dats (F := F) m 0 c).arrAt_in (0 : Fin 2) rfl _
theorem final_o (c : Dev nD) : finalA m c (1 : Fin 2) = result m c := by
  have h : (win0_1.blk (0 : Fin 1)).view.read (Elt F) (finalA m c (1 : Fin 2)) = result m c := by
    unfold finalA
    rw [show cfg0.N = ((0 : Fin 1) : Fin cfg0.N).val + 1 from rfl, (dats m 0 c).arrAt_succ (1 : Fin 2) (0 : Fin 1),
      show (cfg0.win (1 : Fin 2)).flush (0 : Fin 1) = true from by decide, if_pos rfl]
    exact View.read_write_univ _ _
  exact (whole_o c _).symm.trans h

/-- The run, read at the argument and the result: every device ends with `result`, its block as it was, the semaphores at zero. -/
theorem run_result : θ_run defs (onTc (τ := τ) (main (F := F))) ⟨m, fun _ => 0, ρ⟩ (fun r =>
    (∀ c : Dev nD, r.2.mem ((c : Thread nD τ).loc main_v1) = result m c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (final_o m c), (h.1 c (0 : Fin 2)).trans (final_x m c)⟩, h.2⟩)
    (run_main m ρ)

end Cert.KernelIdeal.Mesh

end
-- ==== Proof.First.lean ====
/-
  Where a column's largest element first stands, over extended reals.

  `First f S p` says that the pair `p` holds the largest of `f` over the rows in `S` and, as a real, the least of those rows
  it stands in. There is one such pair. `better` is one step of either program's fold over such pairs: it takes the second
  pair where its element is larger, or equal from an earlier row. Applied to the pairs of two sets of rows it gives the pair
  of their union, in whichever order the sets come.
-/
module

public import Idealize.ShloMosaic.PureOps
public import Idealize.ShloMosaic.PureOps.Reduce
public import Idealize.ShloMosaic.PureOps.Ideal
public import Idealize.ShloMosaic.PureOps.Ideal.Laws
public import Idealize.ShloMosaic.Lib.ValueIdx

@[expose] public section

noncomputable section

namespace Cert.ColumnMax

open Idealize.ShloMosaic Idealize.ShloMosaic.ValueIdx

/-! ## Folds that keep one of what they meet -/

/-- A fold by an operation that keeps one of its two operands ends at its start or at one of the elements. -/
theorem fold_mem {ι α : Type} [DecidableEq ι] (op : α → α → α) [Std.Commutative op] [Std.Associative op]
    (keeps : ∀ a b, op a b = a ∨ op a b = b) (s : Finset ι) (b : α) (g : ι → α) :
    s.fold op b g = b ∨ ∃ i ∈ s, s.fold op b g = g i := by
  induction s using Finset.cons_induction with
  | empty => exact .inl rfl
  | cons a s ha ih =>
    rw [Finset.fold_cons]
    rcases keeps (g a) (s.fold op b g) with h | h
    · exact .inr ⟨a, Finset.mem_cons_self a s, h⟩
    · rw [h]
      rcases ih with h' | ⟨i, hi, h'⟩
      · exact .inl h'
      · exact .inr ⟨i, Finset.mem_cons.mpr (.inr hi), h'⟩

/-- If the operation's result stands before both operands, the fold's stands before every element. -/
theorem fold_before {ι α : Type} [DecidableEq ι] (op : α → α → α) [Std.Commutative op] [Std.Associative op] (R : α → α → Prop)
    (trans : ∀ a b c, R a b → R b c → R a c) (left : ∀ a b, R (op a b) a) (right : ∀ a b, R (op a b) b)
    (s : Finset ι) (b : α) (g : ι → α) : ∀ i ∈ s, R (s.fold op b g) (g i) := by
  induction s using Finset.cons_induction with
  | empty => exact fun i hi => absurd hi (Finset.notMem_empty i)
  | cons a s ha ih =>
    intro i hi
    rw [Finset.fold_cons]
    rcases Finset.mem_cons.mp hi with rfl | hi
    · exact left _ _
    · exact trans _ _ _ (right _ _) (ih i hi)

/-- The largest of a nonempty family of extended reals, folded up from the least of them all: no element exceeds it, and it
    is one of them. -/
theorem fold_max {ι : Type} [DecidableEq ι] (s : Finset ι) (hs : s.Nonempty) (g : ι → EReal) :
    (∀ i ∈ s, g i ≤ s.fold max ⊥ g) ∧ ∃ i ∈ s, s.fold max ⊥ g = g i := by
  have hle : ∀ i ∈ s, g i ≤ s.fold max ⊥ g :=
    fold_before max (fun a b => b ≤ a) (fun _ _ _ h h' => h'.trans h) le_max_left le_max_right s ⊥ g
  refine ⟨hle, ?_⟩
  rcases fold_mem max max_choice s ⊥ g with h | h
  · obtain ⟨i, hi⟩ := hs
    exact ⟨i, hi, h.trans (le_bot_iff.mp (h ▸ hle i hi)).symm⟩
  · exact h

theorem minsi_keeps (a b : BitVec 32) : IntOp.minsi a b = a ∨ IntOp.minsi a b = b := by
  unfold IntOp.minsi; split
  · exact .inl rfl
  · exact .inr rfl
theorem minsi_left (a b : BitVec 32) : (IntOp.minsi a b).toInt ≤ a.toInt := by
  unfold IntOp.minsi; split
  · exact le_rfl
  · rename_i h; simp only [BitVec.slt, BitVec.sle, decide_eq_true_eq] at h; omega
theorem minsi_right (a b : BitVec 32) : (IntOp.minsi a b).toInt ≤ b.toInt := by
  unfold IntOp.minsi; split
  · rename_i h; simp only [BitVec.slt, BitVec.sle, decide_eq_true_eq] at h; omega
  · exact le_rfl

/-- The least of a family of words, read signed, folded down from a start no less than one of them. -/
theorem fold_min {ι : Type} [DecidableEq ι] (s : Finset ι) (b : BitVec 32) (g : ι → BitVec 32) (i₀ : ι) (h₀ : i₀ ∈ s)
    (hb : (g i₀).toInt < b.toInt) :
    (∀ i ∈ s, (s.fold IntOp.minsi b g).toInt ≤ (g i).toInt) ∧ ∃ i ∈ s, s.fold IntOp.minsi b g = g i := by
  have hle : ∀ i ∈ s, (s.fold IntOp.minsi b g).toInt ≤ (g i).toInt :=
    fold_before IntOp.minsi (fun a b => a.toInt ≤ b.toInt) (fun _ _ _ h h' => h.trans h') minsi_left minsi_right s b g
  refine ⟨hle, (fold_mem IntOp.minsi minsi_keeps s b g).resolve_left fun h => ?_⟩
  have := hle i₀ h₀
  rw [h] at this; omega

/-! ## Bits -/

theorem ori_ofBool (a b : Bool) : IntOp.ori (BitVec.ofBool a) (BitVec.ofBool b) = BitVec.ofBool (a || b) := by
  cases a <;> cases b <;> rfl
theorem andi_ofBool (a b : Bool) : IntOp.andi (BitVec.ofBool a) (BitVec.ofBool b) = BitVec.ofBool (a && b) := by
  cases a <;> cases b <;> rfl
theorem choose_ofBool {α : Type} (c : Bool) (a b : α) : Scalar.select (BitVec.ofBool c) a b = if c then a else b := by
  cases c <;> rfl

/-! ## The pair -/

variable {n : Nat}

/-- `p` is the largest of `f` over `S` and the least row of `S` it stands in. -/
def First (f : Fin n → EReal) (S : Set (Fin n)) (p : EReal × EReal) : Prop :=
  ∃ i ∈ S, p = (f i, ((i.val : ℝ) : EReal)) ∧ ∀ r ∈ S, f r < f i ∨ (f r = f i ∧ i ≤ r)

/-- There is one such pair. -/
theorem First.unique {f : Fin n → EReal} {S : Set (Fin n)} {p q : EReal × EReal} (hp : First f S p) (hq : First f S q) : p = q := by
  obtain ⟨i, hi, rfl, h⟩ := hp
  obtain ⟨j, hj, rfl, h'⟩ := hq
  have : i = j := by
    rcases h j hj with a | ⟨a, a'⟩ <;> rcases h' i hi with b | ⟨b, b'⟩
    · exact absurd a (not_lt_of_gt b)
    · exact absurd b.symm a.ne
    · exact absurd a.symm b.ne
    · exact le_antisymm a' b'
  rw [this]

/-- One step of the kernel's fold: the second pair where its element is larger, or equal and from an earlier row. -/
def better (p q : EReal × EReal) : EReal × EReal :=
  let take := IntOp.ori (Ideal.cmp .ogt q.1 p.1) (IntOp.andi (Ideal.cmp .oeq q.1 p.1) (Ideal.cmp .olt q.2 p.2))
  (Scalar.select take q.1 p.1, Scalar.select take q.2 p.2)

theorem better_eq (p q : EReal × EReal) :
    better p q = if p.1 < q.1 ∨ (q.1 = p.1 ∧ q.2 < p.2) then q else p := by
  unfold better Ideal.cmp
  simp only [ori_ofBool, andi_ofBool, choose_ofBool, Bool.or_eq_true, Bool.and_eq_true, decide_eq_true_eq]
  split <;> rfl

theorem row_lt {i j : Fin n} : ((i.val : ℝ) : EReal) < ((j.val : ℝ) : EReal) ↔ i < j := by
  rw [EReal.coe_lt_coe_iff, Nat.cast_lt]; rfl

/-- The pairs of two sets of rows give the pair of their union. -/
theorem First.union {f : Fin n → EReal} {S T : Set (Fin n)} {p q : EReal × EReal} (hp : First f S p) (hq : First f T q) :
    First f (S ∪ T) (better p q) := by
  obtain ⟨i, hi, rfl, h⟩ := hp
  obtain ⟨j, hj, rfl, h'⟩ := hq
  rw [better_eq]
  simp only [row_lt]
  split
  · rename_i c
    refine ⟨j, .inr hj, rfl, fun r hr => ?_⟩
    rcases hr with hr | hr
    · rcases c with c | ⟨c, d⟩ <;> rcases h r hr with a | ⟨a, b⟩
      · exact .inl (a.trans c)
      · exact .inl (a ▸ c)
      · exact .inl (c ▸ a)
      · exact .inr ⟨a.trans c.symm, d.le.trans b⟩
    · exact h' r hr
  · rename_i c
    have c1 : f j ≤ f i := not_lt.mp fun a => c (.inl a)
    have c2 : f j = f i → i ≤ j := fun e => not_lt.mp fun a => c (.inr ⟨e, a⟩)
    refine ⟨i, .inl hi, rfl, fun r hr => ?_⟩
    rcases hr with hr | hr
    · exact h r hr
    · rcases h' r hr with a | ⟨a, b⟩
      · exact .inl (a.trans_le c1)
      · rcases c1.lt_or_eq with d | d
        · exact .inl (a ▸ d)
        · exact .inr ⟨a.trans d, (c2 d).trans b⟩

/-- A set of rows none of which exceeds row `i`, the first of those that reach it. -/
theorem First.of_least {f : Fin n → EReal} {S : Set (Fin n)} {i : Fin n} {v w : EReal} (hi : i ∈ S) (hv : v = f i)
    (hw : w = ((i.val : ℝ) : EReal)) (hle : ∀ r ∈ S, f r ≤ f i) (hleast : ∀ r ∈ S, f r = f i → i ≤ r) : First f S (v, w) := by
  refine ⟨i, hi, by rw [hv, hw], fun r hr => ?_⟩
  rcases (hle r hr).lt_or_eq with h | h
  · exact .inl h
  · exact .inr ⟨h, hleast r hr h⟩

end Cert.ColumnMax

end
-- ==== Proof.KernelValue.lean ====
/-
  What the kernel writes out, over extended reals: on every device, in each column, the largest element of the whole array and
  the first row it stands in.

  A device's own pair for a column covers the strip of rows it holds. The three pairs it receives cover the three other
  strips, so folding the four gives the pair for all the rows, whichever device does it and in whichever order.
-/
module

public import proofs.«01_k».proof.Proof.First
public import proofs.«01_k».proof.Proof.KernelIdeal.Contents
public import Idealize.ShloMosaic.Lib.ValueLayout
public import Idealize.ShloMosaic.Lib.Pipeline.Value
public import Idealize.ShloMosaic.Lib.Layout

@[expose] public section

noncomputable section

namespace Cert.KernelIdeal.Mesh

open Cert.KernelIdeal Cert.KernelIdeal.Gen Cert.ColumnMax
open Idealize.ShloMosaic
open Idealize.ShloMosaic.TcCoe Idealize.ShloMosaic.ValueIdx

/-! ## One strip -/

theorem strip_drop (i : S512x512.Idx) (j : Fin 512) : reduces_S512x512_S512.drop i = ix1 j ↔ i = ix2 (i 0) j := by
  have hv : (reduces_S512x512_S512.drop i 0).val = (i 1).val :=
    Shape.Reduces.drop_apply_val_of_eq reduces_S512x512_S512 i 0 1
  constructor
  · intro h
    have : (i 1).val = j.val := hv.symm.trans (congrArg (fun k : S512.Idx => (k 0).val) h)
    exact (eq_ix2 i).trans (congrArg (ix2 (i 0)) (Fin.ext this))
  · intro h
    refine funext fun a => match a with
      | ⟨0, _⟩ => Fin.ext (hv.trans (congrArg (fun k : S512x512.Idx => (k 1).val) h))

/-- The rows of column `j` of a strip. -/
abbrev inColumn (j : Fin 512) : Finset S512x512.Idx := Finset.univ.filter fun i => reduces_S512x512_S512.drop i = ix1 j

theorem row_mem (j r : Fin 512) : ix2 r j ∈ inColumn j := Finset.mem_filter.mpr ⟨Finset.mem_univ _, (strip_drop _ j).mpr rfl⟩
theorem mem_row {j : Fin 512} {i : S512x512.Idx} (h : i ∈ inColumn j) : i = ix2 (i 0) j := (strip_drop i j).mp (Finset.mem_filter.mp h).2

theorem lowest_f32 : Ideal.ofBits .f32 0xFF800000#32 = (⊥ : EReal) := by simp [Ideal.ofBits, Ideal.ieee]

/-- The widened strip is the strip. -/
theorem widened (b : FVec Ideal S512x512 .bf16) (i : S512x512.Idx) : (k0_pay1 (F := Ideal) b i : EReal) = b i := by
  unfold k0_pay1
  exact congrFun (shapeCast_self b shapeCasts_S512x512_S512x512) i

/-- A strip's largest element in column `j`. -/
theorem strip_max (b : FVec Ideal S512x512 .bf16) (j : Fin 512) :
    (k0_pay2 (F := Ideal) b (ix2 0 j) : EReal) = (inColumn j).fold max ⊥ b := by
  unfold k0_pay2
  refine (shapeCast_a_1a_apply _ shapeCasts_S512_S1x512 0 j).trans ?_
  refine (multiReduction_maximumf_eq_fold _ _ reduces_S512x512_S512 _ _ (ix1 j)).trans ?_
  refine (congrArg (fun z : EReal => Finset.fold max z (k0_pay1 (F := Ideal) b) (inColumn j)) lowest_f32).trans ?_
  exact congrArg (fun g : S512x512.Idx → EReal => Finset.fold max ⊥ g (inColumn j)) (funext (widened b))

/-- What the search for the first row sees at an element: its row where it equals the column's largest, else the number of
    rows. -/
def seen (b : FVec Ideal S512x512 .bf16) (i : S512x512.Idx) : BitVec 32 :=
  if (b i : EReal) = k0_pay2 (F := Ideal) b (ix2 0 (i 1)) then BitVec.ofNat 32 (i 0).val else 512#32

/-- The row the search ends at, as a word. -/
def found (b : FVec Ideal S512x512 .bf16) (j : Fin 512) : BitVec 32 := (inColumn j).fold IntOp.minsi 2147483647#32 (seen b)

theorem pay4_eq (w : BitVec 32) (b : FVec Ideal S512x512 .bf16) (j : Fin 512) :
    (k0_pay4 (F := Ideal) w b (ix2 0 j) : EReal) = (((found b j + w * 512#32).toInt : ℝ) : EReal) := by
  unfold k0_pay4
  refine (congrFun (shapeCast_self _ shapeCasts_S1x512_S1x512) (ix2 0 j)).trans ?_
  refine congrArg (fun z : BitVec 32 => (((z + w * 512#32).toInt : ℝ) : EReal)) ?_
  refine (shapeCast_a_1a_apply _ shapeCasts_S512_S1x512 0 j).trans ?_
  refine (multiReductionI_eq_fold _ _ _ reduces_S512x512_S512 _ (ix1 j)).trans ?_
  refine congrArg (fun g : S512x512.Idx → BitVec 32 => Finset.fold IntOp.minsi 2147483647#32 g (inColumn j)) (funext fun i => ?_)
  rw [select_apply, cmpf_apply]
  have hb : broadcastTo S512x512 (k0_pay2 (F := Ideal) b) broadcasts_S1x512_S512x512 i = k0_pay2 (F := Ideal) b (ix2 0 (i 1)) := by
    conv_lhs => rw [eq_ix2 i]
    exact broadcastTo_1b_ab_apply _ broadcasts_S1x512_S512x512 (i 0) (i 1)
  rw [hb]
  refine (congrArg (fun z : EReal => Scalar.select (Ideal.cmp .oeq z (k0_pay2 (F := Ideal) b (ix2 0 (i 1)))) _ _) (widened b i)).trans ?_
  unfold seen Ideal.cmp
  rw [choose_ofBool]
  simp only [decide_eq_true_eq]
  refine congrArg (fun z => if (b i : EReal) = k0_pay2 (F := Ideal) b (ix2 0 (i 1)) then z else 512#32) ?_
  show BitVec.ofNat 32 (0 * 512 + (i 0).val) = _
  rw [Nat.zero_mul, Nat.zero_add]

theorem word_toInt (k : Nat) (h : k < 2048) : (BitVec.ofNat 32 k).toInt = (k : Int) := by
  rw [BitVec.toInt_eq_toNat_of_lt (by rw [BitVec.toNat_ofNat]; omega), BitVec.toNat_ofNat]; omega

/-- The search ends at the first row that holds the strip's largest element of the column. -/
theorem found_spec (b : FVec Ideal S512x512 .bf16) (j : Fin 512) :
    ∃ l : Fin 512, found b j = BitVec.ofNat 32 l.val ∧ (k0_pay2 (F := Ideal) b (ix2 0 j) : EReal) = b (ix2 l j)
      ∧ (∀ r : Fin 512, (b (ix2 r j) : EReal) ≤ b (ix2 l j)) ∧ ∀ r : Fin 512, (b (ix2 r j) : EReal) = b (ix2 l j) → l ≤ r := by
  obtain ⟨hle, i₀, hi₀, hmax⟩ := fold_max (inColumn j) ⟨_, row_mem j 0⟩ (b : S512x512.Idx → EReal)
  rw [← strip_max] at hle hmax
  have hseen : ∀ r : Fin 512, (b (ix2 r j) : EReal) = k0_pay2 (F := Ideal) b (ix2 0 j) → seen b (ix2 r j) = BitVec.ofNat 32 r.val :=
    fun r h => if_pos h
  have h0 : seen b (ix2 (i₀ 0) j) = BitVec.ofNat 32 (i₀ 0).val := hseen (i₀ 0) ((congrArg b (mem_row hi₀)).symm.trans hmax.symm)
  have hlt0 : (i₀ 0).val < 512 := (i₀ 0).isLt
  obtain ⟨least, i₁, hi₁, hfound⟩ := fold_min (inColumn j) 2147483647#32 (seen b) (ix2 (i₀ 0) j) (row_mem j (i₀ 0)) (by
    rw [h0, word_toInt _ (by omega)]
    have : (2147483647#32 : BitVec 32).toInt = 2147483647 := by decide
    omega)
  change (∀ i ∈ inColumn j, (found b j).toInt ≤ (seen b i).toInt) at least
  change found b j = seen b i₁ at hfound
  have e₁ : i₁ = ix2 (i₁ 0) j := mem_row hi₁
  have hlt1 : (i₁ 0).val < 512 := (i₁ 0).isLt
  by_cases c : (b (ix2 (i₁ 0) j) : EReal) = k0_pay2 (F := Ideal) b (ix2 0 j)
  · have hw : found b j = BitVec.ofNat 32 (i₁ 0).val := hfound.trans ((congrArg (seen b) e₁).trans (hseen (i₁ 0) c))
    refine ⟨i₁ 0, hw, c.symm, fun r => ?_, fun r hr => ?_⟩
    · rw [c]; exact hle _ (row_mem j r)
    · have := least _ (row_mem j r)
      rw [hseen r (hr.trans c), hw, word_toInt _ (by omega), word_toInt _ (by have := r.isLt; omega)] at this
      exact Fin.le_def.mpr (by exact_mod_cast this)
  · exfalso
    have hw : found b j = 512#32 := hfound.trans ((congrArg (seen b) e₁).trans (if_neg c))
    have := least _ (row_mem j (i₀ 0))
    rw [h0, hw, word_toInt (i₀ 0).val (by omega)] at this
    have h512 : (512#32 : BitVec 32).toInt = 512 := by decide
    omega

/-! ## A device's own pair -/

variable (m : (ℓ : Loc nD τ sig) → Buf (Elt Ideal) ℓ)

/-- The rows of the whole array that device `c` holds. -/
def strip (c : Dev nD) : Set (Fin 2048) := { r | r.val / 512 = c.val }

/-- Row `r` of device `c`'s strip, as a row of the whole array. -/
abbrev rowIn (c : Dev nD) (r : Fin 512) : Fin 2048 := ⟨c.val * 512 + r.val, by have := c.isLt; have := r.isLt; simp only [nD] at *; omega⟩

theorem place_word (c : Dev nD) : place c = BitVec.ofNat 32 c.val := by revert c; decide +kernel

/-- The pair of rows `p` at column `j`. -/
def pairAt (p : FVec Ideal S2x512 .f32) (j : Fin 512) : EReal × EReal := (p (ix2 0 j), p (ix2 1 j))

theorem pair_stack (a b : FVec Ideal S1x512 .f32) (j : Fin 512) : pairAt (stack (F := Ideal) a b) j = (a (ix2 0 j), b (ix2 0 j)) :=
  have h0 : stack (F := Ideal) a b (ix2 0 j) = a (ix2 0 j) := by unfold stack; exact if_pos rfl
  have h1 : stack (F := Ideal) a b (ix2 1 j) = b (ix2 0 j) := by unfold stack; exact if_neg (show ¬ ((1 : Fin 2) = 0) by decide)
  Prod.ext h0 h1

theorem pay3_eq (b : FVec Ideal S512x512 .bf16) (j : Fin 512) : (k0_pay3 (F := Ideal) b (ix2 0 j) : EReal) = k0_pay2 (F := Ideal) b (ix2 0 j) := by
  unfold k0_pay3
  exact congrFun (shapeCast_self (k0_pay2 (F := Ideal) b) shapeCasts_S1x512_S1x512) (ix2 0 j)

/-- The pair a device sends out, at a column. -/
theorem pair_part (c : Dev nD) (j : Fin 512) :
    pairAt (part m c) j = ((k0_pay2 (F := Ideal) (block m c) (ix2 0 j) : EReal),
      (((found (block m c) j + place c * 512#32).toInt : ℝ) : EReal)) := by
  unfold part
  rw [pair_stack, pay3_eq, pay4_eq]

/-- What a device sends out is, column by column, the pair for its strip. -/
theorem first_part (f : Fin 512 → Fin 2048 → EReal)
    (hf : ∀ (c : Dev nD) (r j : Fin 512), (block m c (ix2 r j) : EReal) = f j (rowIn c r)) (c : Dev nD) (j : Fin 512) :
    First (f j) (strip c) (pairAt (part m c) j) := by
  obtain ⟨l, hl, hv, hle, hleast⟩ := found_spec (block m c) j
  have hc : c.val < 4 := c.isLt
  have hll : l.val < 512 := l.isLt
  have hsplit : ∀ r ∈ strip c, ∃ k : Fin 512, r = rowIn c k := fun r hr =>
    ⟨⟨r.val % 512, Nat.mod_lt _ (by decide)⟩, Fin.ext (by
      show r.val = c.val * 512 + r.val % 512
      have : r.val / 512 = c.val := hr
      omega)⟩
  rw [pair_part]
  refine .of_least (i := rowIn c l) (show (c.val * 512 + l.val) / 512 = c.val by omega) ?_ ?_ ?_ ?_
  · exact hv.trans (hf c l j)
  · rw [hl, place_word]
    have : BitVec.ofNat 32 l.val + BitVec.ofNat 32 c.val * 512#32 = BitVec.ofNat 32 (c.val * 512 + l.val) := by
      apply BitVec.eq_of_toNat_eq
      simp only [BitVec.toNat_add, BitVec.toNat_mul, BitVec.toNat_ofNat]
      omega
    rw [this, word_toInt _ (by omega), Int.cast_natCast]
  · intro r hr
    obtain ⟨k, rfl⟩ := hsplit r hr
    rw [← hf, ← hf]; exact hle k
  · intro r hr h
    obtain ⟨k, rfl⟩ := hsplit r hr
    rw [← hf, ← hf] at h
    exact Fin.le_def.mpr (Nat.add_le_add_left (Fin.le_def.mp (hleast k h)) _)

/-! ## The fold of the four -/

/-- A row read back from the landing buffer, without its first axis, at a column. -/
abbrev rowAt (v : FVec Ideal S1x1x512 .f32) (j : Fin 512) : EReal := shapeCast S1x512 v shapeCasts_S1x1x512_S1x512 (ix2 0 j)

theorem row_of_slot (v : FVec Ideal S1x1x512 .f32) (j : Fin 512) : rowAt v j = v (ix3 0 0 j) :=
  shapeCast_1ab_ab_apply v shapeCasts_S1x1x512_S1x512 0 j

/-- The kernel's three steps of the fold, at a column. -/
theorem steps_eq (a b : FVec Ideal S1x512 .f32) (v0 i0 v1 i1 v2 i2 : FVec Ideal S1x1x512 .f32) (j : Fin 512) :
    ((k0_pay18 (F := Ideal) a b v0 i0 v1 i1 v2 i2 (ix2 0 j), k0_pay19 (F := Ideal) a b v0 i0 v1 i1 v2 i2 (ix2 0 j)) : EReal × EReal)
      = better (better (better (a (ix2 0 j), b (ix2 0 j)) (rowAt v0 j, rowAt i0 j)) (rowAt v1 j, rowAt i1 j)) (rowAt v2 j, rowAt i2 j) :=
  rfl

/-- What came in slot `k` is what the device that reaches `c` by `hop k` sent. -/
theorem slot_pair (c : Dev nD) (k : Fin 3) (j : Fin 512) :
    (rowAt (gotVal m c k) j, rowAt (gotIdx m c k) j) = pairAt (part m (hop k.rev c)) j := by
  rw [row_of_slot, row_of_slot]
  unfold gotVal gotIdx pairAt
  rfl

/-- What a device writes out, at a column: its own pair, bettered by the three it received in turn. -/
theorem result_eq (c : Dev nD) (j : Fin 512) :
    pairAt (result m c) j
      = better (better (better (pairAt (part m c) j) (pairAt (part m (hop (Fin.rev 0) c)) j)) (pairAt (part m (hop (Fin.rev 1) c)) j))
          (pairAt (part m (hop (Fin.rev 2) c)) j) := by
  rw [← slot_pair, ← slot_pair, ← slot_pair]
  unfold result
  rw [pair_stack, steps_eq]
  unfold part
  rw [pair_stack]

theorem strips_cover (c : Dev nD) :
    strip c ∪ strip (hop (Fin.rev 0) c) ∪ strip (hop (Fin.rev 1) c) ∪ strip (hop (Fin.rev 2) c) = Set.univ := by
  refine Set.eq_univ_iff_forall.mpr fun r => ?_
  have hr : r.val / 512 < 4 := by have := r.isLt; omega
  have key : ∀ (c : Dev nD) (d : Fin 4), d.val = c.val ∨ d.val = (hop (Fin.rev 0) c).val ∨ d.val = (hop (Fin.rev 1) c).val
      ∨ d.val = (hop (Fin.rev 2) c).val := by decide
  rcases key c ⟨r.val / 512, hr⟩ with h | h | h | h
  · exact .inl (.inl (.inl h))
  · exact .inl (.inl (.inr h))
  · exact .inl (.inr h)
  · exact .inr h

/-- What a device writes out is, column by column, the pair for the whole array. -/
theorem first_result (f : Fin 512 → Fin 2048 → EReal)
    (hf : ∀ (c : Dev nD) (r j : Fin 512), (block m c (ix2 r j) : EReal) = f j (rowIn c r)) (c : Dev nD) (j : Fin 512) :
    First (f j) Set.univ (pairAt (result m c) j) := by
  rw [result_eq, ← strips_cover c]
  exact (((first_part m f hf c j).union (first_part m f hf _ j)).union (first_part m f hf _ j)).union (first_part m f hf _ j)

end Cert.KernelIdeal.Mesh

end
-- ==== Proof.ReferenceRun.lean ====
/-
  The reference's run on its one device: twelve operations in a straight line, the first five of them the body of the
  arg-max it calls. From any contents the run ends with the last buffer at `whole` of the argument and the argument as it was.
-/
module

public import proofs.«01_k».proof.Proof.Gen.ReferenceIdeal
public import Idealize.ShloMosaic.Lib.StableHlo.Run
public import Idealize.ShloMosaic.Lib.StableHlo.ReadAt

@[expose] public section

noncomputable section

namespace Cert.ReferenceIdeal.Whole

open Cert.ReferenceIdeal Cert.ReferenceIdeal.Gen
open Idealize.ShloMosaic Idealize.ShloMosaic.TcCoe Idealize.ShloMosaic.StableHlo Idealize.SL.Sem

variable {F : FTy → Type} [FloatOps F]

/-- For each column the pair the arg-max's reduction ends at: a largest element and the row it stands in. -/
def bestPair (x : FVec F S2048x512 .bf16) (j : S512.Idx) : F .bf16 × BitVec 32 :=
  Host.argReduce reducer_argmax_bf16_i32 x (iotaInDim S2048x512 32 0) (constant S_ .bf16 0xFF80#16) (constantI S_ 32 0#32)
    reducesTo_S2048x512_S512_d0 h_S_ j

/-- The columns' largest elements. -/
def tops (x : FVec F S2048x512 .bf16) : FVec F S512 .f32 :=
  extf .f32 (Host.reduce FloatOps.maximumf x (constant S_ .bf16 0xFF80#16) reducesTo_S2048x512_S512_d0 h_S_) bitsLt_bf16_f32

/-- The rows they stand in, as floats. -/
def rows (x : FVec F S2048x512 .bf16) : FVec F S512 .f32 := sitofp .f32 (fun j => (bestPair x j).2)

/-- The two, one above the other. -/
def whole (x : FVec F S2048x512 .bf16) : FVec F S2x512 .f32 :=
  concatenate S2x512 0 [⟨S1x512, broadcastInDim S1x512 ![1] bcast_S512_S1x512_1 (tops x)⟩,
    ⟨S1x512, broadcastInDim S1x512 ![1] bcast_S512_S1x512_1 (rows x)⟩] concatenates_S1x512_S1x512_S2x512_d0

/-- The operations of the run, the called function's in place of the call. -/
abbrev line : List (HloOp τ sig (Elt F)) :=
  [ TRef.nullary main_call0.v0 (iotaInDim S2048x512 32 0),
    TRef.nullary main_call0.cst (constant S_ .bf16 0xFF80#16),
    TRef.nullary main_call0.c (constantI S_ 32 0#32),
    TRef.quaternary (.of main_arg0) main_call0.v0 main_call0.cst main_call0.c main_call0.v1_0
      (fun x y u v j => (Host.argReduce reducer_argmax_bf16_i32 x y u v reducesTo_S2048x512_S512_d0 h_S_ j).1),
    TRef.quaternary (.of main_arg0) main_call0.v0 main_call0.cst main_call0.c main_call0.v1_1
      (fun x y u v j => (Host.argReduce reducer_argmax_bf16_i32 x y u v reducesTo_S2048x512_S512_d0 h_S_ j).2),
    unary main_v0 main_v1 (sitofp .f32 : (⟨S512, .i32⟩ : BufTy).Contents (Elt F) → (⟨S512, .f32⟩ : BufTy).Contents (Elt F)),
    nullary main_cst (constant S_ .bf16 0xFF80#16),
    binary main_arg0 main_cst main_v2 ((fun x v => Host.reduce FloatOps.maximumf x v reducesTo_S2048x512_S512_d0 h_S_) :
      (⟨S2048x512, .bf16⟩ : BufTy).Contents (Elt F) → (⟨S_, .bf16⟩ : BufTy).Contents (Elt F) → (⟨S512, .bf16⟩ : BufTy).Contents (Elt F)),
    unary main_v2 main_v3 ((extf .f32 · bitsLt_bf16_f32) :
      (⟨S512, .bf16⟩ : BufTy).Contents (Elt F) → (⟨S512, .f32⟩ : BufTy).Contents (Elt F)),
    unary main_v3 main_v4 (broadcastInDim S1x512 ![1] bcast_S512_S1x512_1 :
      (⟨S512, .f32⟩ : BufTy).Contents (Elt F) → (⟨S1x512, .f32⟩ : BufTy).Contents (Elt F)),
    unary main_v1 main_v5 (broadcastInDim S1x512 ![1] bcast_S512_S1x512_1 :
      (⟨S512, .f32⟩ : BufTy).Contents (Elt F) → (⟨S1x512, .f32⟩ : BufTy).Contents (Elt F)),
    binary main_v4 main_v5 main_v6 ((fun a b => concatenate S2x512 0 [⟨S1x512, a⟩, ⟨S1x512, b⟩] concatenates_S1x512_S1x512_S2x512_d0) :
      (⟨S1x512, .f32⟩ : BufTy).Contents (Elt F) → (⟨S1x512, .f32⟩ : BufTy).Contents (Elt F) → (⟨S2x512, .f32⟩ : BufTy).Contents (Elt F)) ]

theorem main_line (d : Dev nD) : main (F := F) d = seq line := rfl

/-- What the last buffer ends at. -/
theorem line_out (V : Valuation τ sig (Elt F)) :
    after line V (main_v6 : DevRef τ sig) = whole (V (main_arg0 : DevRef τ sig)) := by
  after_results
  rfl

/-- The argument is written by none of them. -/
theorem line_arg (V : Valuation τ sig (Elt F)) : after line V (main_arg0 : DevRef τ sig) = V (main_arg0 : DevRef τ sig) := by
  after_results

theorem no_ref_scoped : (Finset.univ.filter fun b : Ref sig .tc => b.isScoped) = ∅ := by decide
theorem no_sem_scoped : (Finset.univ.filter fun sm : SemLoc sig => sm.isScoped .tc) = ∅ := by decide

theorem line_touches : (line : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub .., unary_bufs_sub ..,
    binary_bufs_sub ..⟩

/-- The run, from any memory with its semaphores at zero. -/
theorem run_whole (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6) = whole (m ((c.tc : Thread nD τ).loc main_arg0))
        ∧ r.2.mem ((c.tc : Thread nD τ).loc main_arg0) = m ((c.tc : Thread nD τ).loc main_arg0)) ∧ r.2.sem = fun _ => 0 :=
  (θ_run defs _ _).mono
    (fun r h => ⟨fun c => ⟨(h c main_v6).trans (line_out _), (h c main_arg0).trans (line_arg _)⟩,
      sem_eq_zero_of_no_sems (by decide) r.2⟩)
    (run_seq no_ref_scoped no_sem_scoped defs main (fun _ => line) main_line (fun _ => line_touches) m ρ)

end Cert.ReferenceIdeal.Whole

end
-- ==== Proof.ReferenceValue.lean ====
/-
  What the reference computes, over extended reals: in each column the largest element and the first row it stands in.

  The arg-max walks the column from the pair (`−∞`, row 0), which is no row's. It ends there only where no element exceeds
  `−∞`, and there row 0 holds `−∞` too.
-/
module

public import proofs.«01_k».proof.Proof.First
public import proofs.«01_k».proof.Proof.ReferenceRun
public import Idealize.ShloMosaic.Lib.ValueLayout
public import Idealize.ShloMosaic.Lib.Pipeline.Value

@[expose] public section

noncomputable section

namespace Cert.ReferenceIdeal.Whole

open Cert.ReferenceIdeal Cert.ReferenceIdeal.Gen Cert.ColumnMax
open Idealize.ShloMosaic hiding ix1 ix2 eq_ix2 extf_apply
open Idealize.ShloMosaic.ValueIdx

/-- Column `j` of the array, row by row. -/
abbrev column (x : FVec Ideal S2048x512 .bf16) (j : Fin 512) (r : Fin 2048) : EReal := x (ix2 r j)

/-! ## The walk of the arg-max -/

/-- The pair `q` stands before `p`: its element is larger, or equal from a row no later. -/
def Before (q p : EReal × BitVec 32) : Prop := p.1 < q.1 ∨ (p.1 = q.1 ∧ q.2.toInt ≤ p.2.toInt)

theorem Before.refl (p : EReal × BitVec 32) : Before p p := .inr ⟨rfl, le_rfl⟩
theorem Before.trans {a b c : EReal × BitVec 32} (h : Before a b) (h' : Before b c) : Before a c := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- The walk's step keeps the pair that stands before the other. -/
theorem step_eq (a b : EReal × BitVec 32) :
    (reducer_argmax_bf16_i32 (F := Ideal) a b : EReal × BitVec 32) = if b.1 < a.1 ∨ (a.1 = b.1 ∧ a.2.toInt < b.2.toInt) then a else b := by
  have h1 : IntOp.ori (Ideal.cmp .ogt a.1 b.1) (Ideal.cmp .une a.1 a.1) = BitVec.ofBool (decide (b.1 < a.1)) := by
    have : Ideal.cmp .une a.1 a.1 = BitVec.ofBool false := by simp [Ideal.cmp]
    rw [this]
    exact (ori_ofBool _ _).trans (congrArg BitVec.ofBool (Bool.or_false _))
  have h2 : IntOp.ori (IntOp.ori (Ideal.cmp .ogt a.1 b.1) (Ideal.cmp .une a.1 a.1))
      (IntOp.andi (Ideal.cmp .oeq a.1 b.1) (IntOp.cmpi .slt a.2 b.2))
      = BitVec.ofBool (decide (b.1 < a.1) || (decide (a.1 = b.1) && decide (a.2.toInt < b.2.toInt))) := by
    rw [h1]; simp only [Ideal.cmp, IntOp.cmpi, andi_ofBool, ori_ofBool, BitVec.slt]
  have key : (reducer_argmax_bf16_i32 (F := Ideal) a b : EReal × BitVec 32)
      = (Scalar.select (BitVec.ofBool (decide (b.1 < a.1))) a.1 b.1,
        Scalar.select (BitVec.ofBool (decide (b.1 < a.1) || (decide (a.1 = b.1) && decide (a.2.toInt < b.2.toInt)))) a.2 b.2) :=
    Prod.ext (congrArg (fun c => Scalar.select c a.1 b.1) h1) (congrArg (fun c => Scalar.select c a.2 b.2) h2)
  rw [key]
  simp only [choose_ofBool, Bool.or_eq_true, Bool.and_eq_true, decide_eq_true_eq]
  by_cases c : b.1 < a.1
  · simp [c]
  · by_cases d : a.1 = b.1 ∧ a.2.toInt < b.2.toInt
    · rw [if_neg c, if_pos (.inr d), if_pos (.inr d), ← d.1]
    · rw [if_neg c, if_neg (by tauto), if_neg (by tauto)]

theorem step_before (a b : EReal × BitVec 32) :
    Before (reducer_argmax_bf16_i32 (F := Ideal) a b) a ∧ Before (reducer_argmax_bf16_i32 (F := Ideal) a b) b := by
  have e := step_eq a b
  rw [e]
  split
  · rename_i c
    exact ⟨.refl a, c.imp id fun h => ⟨h.1.symm, h.2.le⟩⟩
  · rename_i c
    refine ⟨?_, .refl b⟩
    rcases lt_trichotomy a.1 b.1 with h | h | h
    · exact .inl h
    · exact .inr ⟨h, not_lt.mp fun k => c (.inr ⟨h, k⟩)⟩
    · exact absurd (.inl h) c

/-- The walk ends at its start or at a pair it met, before its start and before every pair it met. -/
theorem walk (l : List (EReal × BitVec 32)) (s : EReal × BitVec 32) :
    (l.foldl (reducer_argmax_bf16_i32 (F := Ideal)) s = s ∨ l.foldl (reducer_argmax_bf16_i32 (F := Ideal)) s ∈ l)
      ∧ Before (l.foldl (reducer_argmax_bf16_i32 (F := Ideal)) s) s
      ∧ ∀ p ∈ l, Before (l.foldl (reducer_argmax_bf16_i32 (F := Ideal)) s) p := by
  induction l generalizing s with
  | nil => exact ⟨.inl rfl, .refl s, fun p hp => absurd hp List.not_mem_nil⟩
  | cons a l ih =>
    obtain ⟨h1, h2, h3⟩ := ih (reducer_argmax_bf16_i32 (F := Ideal) s a)
    rw [List.foldl_cons]
    obtain ⟨b1, b2⟩ := step_before s a
    refine ⟨?_, h2.trans b1, fun p hp => ?_⟩
    · rcases h1 with h | h
      · have e := step_eq s a
        split at e
        · exact .inl (h.trans e)
        · exact .inr (List.mem_cons.mpr (.inl (h.trans e)))
      · exact .inr (List.mem_cons.mpr (.inr h))
    · rcases List.mem_cons.mp hp with rfl | hp
      · exact h2.trans b2
      · exact h3 p hp

/-! ## The column a result index stands for -/

theorem drop_iff (i : S2048x512.Idx) (j : Fin 512) : reducesTo_S2048x512_S512_d0.drop i = ix1 j ↔ i = ix2 (i 0) j := by
  have hv : (reducesTo_S2048x512_S512_d0.drop i 0).val = (i 1).val :=
    Shape.ReducesTo.drop_apply_val_of_eq reducesTo_S2048x512_S512_d0 i 0 1
  constructor
  · intro h
    have : (i 1).val = j.val := hv.symm.trans (congrArg (fun k : S512.Idx => (k 0).val) h)
    exact (eq_ix2 i).trans (congrArg (ix2 (i 0)) (Fin.ext this))
  · intro h
    refine funext fun a => match a with
      | ⟨0, _⟩ => Fin.ext (hv.trans (congrArg (fun k : S2048x512.Idx => (k 1).val) h))

/-- The start of the arg-max and of the maximum is `−∞`. -/
theorem lowest_bf16 : Ideal.ofBits .bf16 0xFF80#16 = (⊥ : EReal) := by simp [Ideal.ofBits, Ideal.ieee]

theorem row_word (r : Fin 2048) : (BitVec.ofNat 32 r.val).toInt = (r.val : Int) := by
  have := r.isLt
  rw [BitVec.toInt_eq_toNat_of_lt (by rw [BitVec.toNat_ofNat]; omega), BitVec.toNat_ofNat]; omega

/-- The pairs the arg-max meets in column `j`: each row's element and the row's word. -/
theorem mem_fiber (x : FVec Ideal S2048x512 .bf16) (j : Fin 512) (p : EReal × BitVec 32) :
    p ∈ Host.argReduceFiber x (iotaInDim S2048x512 32 0) reducesTo_S2048x512_S512_d0 (ix1 j)
      ↔ ∃ r, p = (column x j r, BitVec.ofNat 32 r.val) := by
  unfold Host.argReduceFiber
  rw [List.mem_map]
  constructor
  · rintro ⟨n, hn, rfl⟩
    have h := (drop_iff _ j).mp (of_decide_eq_true (List.mem_filter.mp hn).2)
    refine ⟨(S2048x512.rowMajor.symm n) 0, Prod.ext (congrArg x h) rfl⟩
  · rintro ⟨r, rfl⟩
    refine ⟨S2048x512.rowMajor (ix2 r j), List.mem_filter.mpr ⟨List.mem_finRange _, decide_eq_true ?_⟩, ?_⟩
    · rw [Equiv.symm_apply_apply]; exact (drop_iff _ j).mpr rfl
    · rw [Equiv.symm_apply_apply]; rfl

/-- The arg-max's pair in column `j` is a row's, and no row's stands before it. -/
theorem bestPair_spec (x : FVec Ideal S2048x512 .bf16) (j : Fin 512) :
    ∃ i : Fin 2048, (bestPair x (ix1 j)).2 = BitVec.ofNat 32 i.val
      ∧ ∀ r, column x j r < column x j i ∨ (column x j r = column x j i ∧ i ≤ r) := by
  have e : bestPair x (ix1 j)
      = (Host.argReduceFiber x (iotaInDim S2048x512 32 0) reducesTo_S2048x512_S512_d0 (ix1 j)).foldl
          (reducer_argmax_bf16_i32 (F := Ideal)) (⊥, 0#32) := by
    unfold bestPair
    rw [Ideal.argReduce_eq_reduce2, Host.reduce2_eq_foldl_fiber]
    generalize Host.argReduceFiber x (iotaInDim S2048x512 32 0) reducesTo_S2048x512_S512_d0 (ix1 j) = l
    rw [← lowest_bf16]
    exact congrArg (fun b => List.foldl (reducer_argmax_bf16_i32 (F := Ideal)) b l) rfl
  obtain ⟨h1, h2, h3⟩ := walk (Host.argReduceFiber x (iotaInDim S2048x512 32 0) reducesTo_S2048x512_S512_d0 (ix1 j)) (⊥, 0#32)
  rw [← e] at h1 h2 h3
  have hall : ∀ r, Before (bestPair x (ix1 j)) (column x j r, BitVec.ofNat 32 r.val) := fun r => h3 _ ((mem_fiber x j _).mpr ⟨r, rfl⟩)
  have hrow : ∃ i : Fin 2048, (bestPair x (ix1 j) : EReal × BitVec 32) = (column x j i, BitVec.ofNat 32 i.val) := by
    rcases h1 with h | h
    · refine ⟨0, h.trans (Prod.ext ?_ rfl)⟩
      have := hall 0
      rw [h] at this
      rcases this with a | ⟨a, -⟩
      · exact absurd a not_lt_bot
      · exact a.symm
    · exact (mem_fiber x j _).mp h
  obtain ⟨i, hi⟩ := hrow
  refine ⟨i, congrArg Prod.snd hi, fun r => ?_⟩
  have := hall r
  rw [hi] at this
  refine this.imp id fun h => ⟨h.1, ?_⟩
  have h2 := h.2
  simp only [row_word] at h2
  exact Fin.le_def.mpr (by omega)

/-- The maximum of column `j`. -/
theorem tops_spec (x : FVec Ideal S2048x512 .bf16) (j : Fin 512) :
    (∀ r, column x j r ≤ tops x (ix1 j)) ∧ ∃ i, tops x (ix1 j) = column x j i := by
  have e : tops x (ix1 j) = (Finset.univ.filter fun i => reducesTo_S2048x512_S512_d0.drop i = ix1 j).fold max ⊥ x := by
    unfold tops
    rw [extf_apply, Host.reduce_eq_fold]
    exact congrArg (fun b : EReal => Finset.fold max b x _) lowest_bf16
  have hmem : ∀ r, ix2 r j ∈ Finset.univ.filter fun i => reducesTo_S2048x512_S512_d0.drop i = ix1 j :=
    fun r => Finset.mem_filter.mpr ⟨Finset.mem_univ _, (drop_iff _ j).mpr rfl⟩
  obtain ⟨h1, i, hi, h2⟩ := fold_max (Finset.univ.filter fun i => reducesTo_S2048x512_S512_d0.drop i = ix1 j) ⟨_, hmem 0⟩ x
  rw [e]
  exact ⟨fun r => h1 _ (hmem r), i 0, h2.trans (congrArg x ((drop_iff i j).mp (Finset.mem_filter.mp hi).2))⟩

/-- Column `j` of the reference's two rows. -/
theorem first_whole (x : FVec Ideal S2048x512 .bf16) (j : Fin 512) :
    First (column x j) Set.univ (tops x (ix1 j), rows x (ix1 j)) := by
  obtain ⟨i, hi, h⟩ := bestPair_spec x j
  obtain ⟨hle, k, hk⟩ := tops_spec x j
  have hik : ∀ r, column x j r ≤ column x j i := fun r => (h r).elim le_of_lt fun a => a.1.le
  refine .of_least (i := i) trivial (le_antisymm (hk ▸ hik k) (hle i)) ?_ (fun r _ => hik r)
    fun r _ e => (h r).elim (fun a => absurd e a.ne) (fun a => a.2)
  show (((bestPair x (ix1 j)).2.toInt : ℝ) : EReal) = _
  rw [hi, row_word, Int.cast_natCast]

/-! ## The two rows, one above the other -/

/-- A row of columns, given a unit axis in front. -/
theorem raised (v : FVec Ideal S512 .f32) (j : Fin 512) :
    broadcastInDim S1x512 ![1] bcast_S512_S1x512_1 v (ix2 0 j) = v (ix1 j) := by
  unfold broadcastInDim
  refine congrArg v (funext fun a => match a with
    | ⟨0, _⟩ => rfl)

theorem whole_row0 (x : FVec Ideal S2048x512 .bf16) (j : Fin 512) : whole x (ix2 0 j) = tops x (ix1 j) := by
  unfold whole
  exact (concatenate_pair_apply_left (t := S2x512) (s₁ := S1x512) (s₂ := S1x512) 0 _ _ _ (ix2 0 j) rfl (ix2 0 j)
    (fun b => match b with
      | ⟨0, _⟩ => rfl
      | ⟨1, _⟩ => rfl)).trans (raised _ j)
theorem whole_row1 (x : FVec Ideal S2048x512 .bf16) (j : Fin 512) : whole x (ix2 1 j) = rows x (ix1 j) := by
  unfold whole
  exact (concatenate_pair_apply_right (t := S2x512) (s₁ := S1x512) (s₂ := S1x512) 0 _ _ _ (ix2 1 j) rfl rfl (ix2 0 j)
    (fun b hb => match b, hb with
      | ⟨0, _⟩, hb => absurd rfl hb
      | ⟨1, _⟩, _ => rfl) rfl).trans (raised _ j)

end Cert.ReferenceIdeal.Whole

end
-- ==== Proof.lean ====
/-
  The certificate: the kernel's frame at both instances, the reference's frame, and the equality of what they compute over
  extended reals. The kernel's runs are in Proof/Kernel and Proof/KernelIdeal; what its result is, column by column, in
  Proof/KernelValue; the reference's run and result in Proof/ReferenceRun and Proof/ReferenceValue.
-/
module

public import proofs.«01_k».proof.Defs
public import proofs.«01_k».proof.Proof.Kernel.Launch
public import proofs.«01_k».proof.Proof.KernelIdeal.Launch
public import proofs.«01_k».proof.Proof.KernelValue
public import proofs.«01_k».proof.Proof.ReferenceValue

@[expose] public section

noncomputable section

namespace Cert.Proof

open Idealize.ShloMosaic Idealize.SL.Sem Cert.ColumnMax

theorem frame_kernel : Cert.quiescent_Kernel := by
  intro m ρ _
  exact (θ_run _ _ _).mono (fun _ h => ⟨fun c => (h.1 c).2, h.2⟩) (Cert.Kernel.Mesh.run_result (F := Bits) m ρ)

theorem frame_kernelIdeal : Cert.quiescent_KernelIdeal := by
  intro m ρ _
  exact (θ_run _ _ _).mono (fun _ h => ⟨fun c => (h.1 c).2, h.2⟩) (Cert.KernelIdeal.Mesh.run_result (F := Ideal) m ρ)

theorem frame_referenceIdeal : Cert.quiescent_ReferenceIdeal := by
  intro m ρ _
  exact (θ_run _ _ _).mono (fun _ h => ⟨fun c => (h.1 c).2, h.2⟩) (Cert.ReferenceIdeal.Whole.run_whole (F := Ideal) m ρ)

/-- A device that holds its strip of `x` among devices that hold theirs writes out what the reference computes of `x`. -/
theorem result_eq_whole (m : (ℓ : Loc Cert.KernelIdeal.nD Cert.KernelIdeal.τ Cert.KernelIdeal.sig) → Buf (Elt Ideal) ℓ)
    (x : FVec Ideal Cert.ReferenceIdeal.S2048x512 .bf16)
    (hm : ∀ c : Dev Cert.KernelIdeal.nD, m ((c.tc : Thread Cert.KernelIdeal.nD Cert.KernelIdeal.τ).loc Cert.KernelIdeal.main_arg0)
      = Layout.block ⟨2, ![512, 512]⟩ ⟨2, ![2048, 512]⟩ 0 4 c x)
    (c : Dev Cert.KernelIdeal.nD) :
    Cert.KernelIdeal.Mesh.result m c = (Cert.ReferenceIdeal.Whole.whole x : FVec Ideal Cert.ReferenceIdeal.S2x512 .f32) := by
  have hf : ∀ (d : Dev Cert.KernelIdeal.nD) (r j : Fin 512), (Cert.KernelIdeal.Mesh.block m d (ValueIdx.ix2 r j) : EReal)
      = Cert.ReferenceIdeal.Whole.column x j (Cert.KernelIdeal.Mesh.rowIn d r) := by
    intro d r j
    rw [Cert.KernelIdeal.Mesh.block_eq, hm d, Layout.block_apply]
    refine congrArg x (funext fun b => Fin.ext ?_)
    rw [Layout.Tiles.idx_val]
    match b with
    | ⟨0, _⟩ => rfl
    | ⟨1, _⟩ => rfl
  have hcol : ∀ j : Fin 512, Cert.KernelIdeal.Mesh.pairAt (Cert.KernelIdeal.Mesh.result m c) j
      = (Cert.ReferenceIdeal.Whole.tops x (ValueIdx.ix1 j), Cert.ReferenceIdeal.Whole.rows x (ValueIdx.ix1 j)) := fun j =>
    (Cert.KernelIdeal.Mesh.first_result m (Cert.ReferenceIdeal.Whole.column x) hf c j).unique
      (Cert.ReferenceIdeal.Whole.first_whole x j)
  refine funext fun i => ?_
  have hi : i = ValueIdx.ix2 (i 0) (i 1) := ValueIdx.eq_ix2 i
  have hr : ∀ r : Fin 2, r = 0 ∨ r = 1 := by decide
  rcases hr (i 0) with h | h <;> rw [hi, h]
  · exact (congrArg Prod.fst (hcol (i 1))).trans (Cert.ReferenceIdeal.Whole.whole_row0 x (i 1)).symm
  · exact (congrArg Prod.snd (hcol (i 1))).trans (Cert.ReferenceIdeal.Whole.whole_row1 x (i 1)).symm

theorem equal : Cert.algebraic_KernelIdeal_ReferenceIdeal := by
  intro m g m' g' _ hm
  refine ⟨Cert.ReferenceIdeal.Whole.whole (F := Ideal) (m' (((0 : Dev Cert.ReferenceIdeal.nD).tc :
    Thread Cert.ReferenceIdeal.nD Cert.ReferenceIdeal.τ).loc Cert.ReferenceIdeal.main_arg0)), ?_, ?_⟩
  · exact (θ_run _ _ _).mono (fun _ h c => ⟨(h.1 c).1.trans (result_eq_whole m _ hm c), (h.1 c).2⟩)
      (Cert.KernelIdeal.Mesh.run_result (F := Ideal) m g)
  · exact (θ_run _ _ _).mono (fun _ h => h.1 0) (Cert.ReferenceIdeal.Whole.run_whole (F := Ideal) m' g')

theorem claim : Cert.Claim :=
  ⟨Cert.Kernel.Gen.facts, Cert.KernelIdeal.Gen.facts, Cert.ReferenceIdeal.Gen.facts,
    frame_kernel, frame_kernelIdeal, frame_referenceIdeal, trivial, equal⟩

end Cert.Proof

end
